-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelBits (m : (ℓ : Loc Cert.KernelBits.nD Cert.KernelBits.τ Cert.KernelBits.sig) → Buf (Elt Bits) ℓ) : Prop :=
  True

def Pre_KernelPoly (m : (ℓ : Loc Cert.KernelPoly.nD Cert.KernelPoly.τ Cert.KernelPoly.sig) → Buf (Elt Bits) ℓ) : Prop :=
  True

def Pre_KernelPolyIdeal (m : (ℓ : Loc Cert.KernelPolyIdeal.nD Cert.KernelPolyIdeal.τ Cert.KernelPolyIdeal.sig) → Buf (Elt Ideal) ℓ) : Prop :=
  True

def Pre_KernelPolyIdeal_bounded [hPre_bounded : Cert.Pre_bounded.Facts] (m : (ℓ : Loc Cert.KernelPolyIdeal.nD Cert.KernelPolyIdeal.τ Cert.KernelPolyIdeal.sig) → Buf (Elt Ideal) ℓ) : Prop :=
  ∀ c : Dev Cert.KernelPolyIdeal.nD,
    (Cert.Pre_bounded.fn (F := Ideal) (m ((c.tc : Thread Cert.KernelPolyIdeal.nD Cert.KernelPolyIdeal.τ).loc Cert.KernelPolyIdeal.main_arg0)) (m ((c.tc : Thread Cert.KernelPolyIdeal.nD Cert.KernelPolyIdeal.τ).loc Cert.KernelPolyIdeal.main_arg1)) (m ((c.tc : Thread Cert.KernelPolyIdeal.nD Cert.KernelPolyIdeal.τ).loc Cert.KernelPolyIdeal.main_arg2)) (m ((c.tc : Thread Cert.KernelPolyIdeal.nD Cert.KernelPolyIdeal.τ).loc Cert.KernelPolyIdeal.main_arg3)) (m ((c.tc : Thread Cert.KernelPolyIdeal.nD Cert.KernelPolyIdeal.τ).loc Cert.KernelPolyIdeal.main_arg4)) (m ((c.tc : Thread Cert.KernelPolyIdeal.nD Cert.KernelPolyIdeal.τ).loc Cert.KernelPolyIdeal.main_arg5)) (m ((c.tc : Thread Cert.KernelPolyIdeal.nD Cert.KernelPolyIdeal.τ).loc Cert.KernelPolyIdeal.main_arg6)) (m ((c.tc : Thread Cert.KernelPolyIdeal.nD Cert.KernelPolyIdeal.τ).loc Cert.KernelPolyIdeal.main_arg7)) (m ((c.tc : Thread Cert.KernelPolyIdeal.nD Cert.KernelPolyIdeal.τ).loc Cert.KernelPolyIdeal.main_arg8)) (m ((c.tc : Thread Cert.KernelPolyIdeal.nD Cert.KernelPolyIdeal.τ).loc Cert.KernelPolyIdeal.main_arg9)) (m ((c.tc : Thread Cert.KernelPolyIdeal.nD Cert.KernelPolyIdeal.τ).loc Cert.KernelPolyIdeal.main_arg10))).1 = (fun _ => 1#1)
    ∧ (Cert.Pre_bounded.fn (F := Ideal) (m ((c.tc : Thread Cert.KernelPolyIdeal.nD Cert.KernelPolyIdeal.τ).loc Cert.KernelPolyIdeal.main_arg0)) (m ((c.tc : Thread Cert.KernelPolyIdeal.nD Cert.KernelPolyIdeal.τ).loc Cert.KernelPolyIdeal.main_arg1)) (m ((c.tc : Thread Cert.KernelPolyIdeal.nD Cert.KernelPolyIdeal.τ).loc Cert.KernelPolyIdeal.main_arg2)) (m ((c.tc : Thread Cert.KernelPolyIdeal.nD Cert.KernelPolyIdeal.τ).loc Cert.KernelPolyIdeal.main_arg3)) (m ((c.tc : Thread Cert.KernelPolyIdeal.nD Cert.KernelPolyIdeal.τ).loc Cert.KernelPolyIdeal.main_arg4)) (m ((c.tc : Thread Cert.KernelPolyIdeal.nD Cert.KernelPolyIdeal.τ).loc Cert.KernelPolyIdeal.main_arg5)) (m ((c.tc : Thread Cert.KernelPolyIdeal.nD Cert.KernelPolyIdeal.τ).loc Cert.KernelPolyIdeal.main_arg6)) (m ((c.tc : Thread Cert.KernelPolyIdeal.nD Cert.KernelPolyIdeal.τ).loc Cert.KernelPolyIdeal.main_arg7)) (m ((c.tc : Thread Cert.KernelPolyIdeal.nD Cert.KernelPolyIdeal.τ).loc Cert.KernelPolyIdeal.main_arg8)) (m ((c.tc : Thread Cert.KernelPolyIdeal.nD Cert.KernelPolyIdeal.τ).loc Cert.KernelPolyIdeal.main_arg9)) (m ((c.tc : Thread Cert.KernelPolyIdeal.nD Cert.KernelPolyIdeal.τ).loc Cert.KernelPolyIdeal.main_arg10))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_KernelBits [hKernelBits : Cert.KernelBits.Facts] : Prop :=
  ∀ (m : (ℓ : Loc Cert.KernelBits.nD Cert.KernelBits.τ Cert.KernelBits.sig) → Buf (Elt Bits) ℓ) (g : Dev Cert.KernelBits.nD → PrngReg), Pre_KernelBits m →
    θ_run (Cert.KernelBits.defs (F := Bits)) (onTc (τ := Cert.KernelBits.τ) (Cert.KernelBits.main (F := Bits))) ⟨m, fun _ => 0, g⟩ (fun r => (∀ c : Dev Cert.KernelBits.nD,
      r.2.mem ((c.tc : Thread Cert.KernelBits.nD Cert.KernelBits.τ).loc Cert.KernelBits.main_arg0) = m ((c.tc : Thread Cert.KernelBits.nD Cert.KernelBits.τ).loc Cert.KernelBits.main_arg0)
      ∧ r.2.mem ((c.tc : Thread Cert.KernelBits.nD Cert.KernelBits.τ).loc Cert.KernelBits.main_arg1) = m ((c.tc : Thread Cert.KernelBits.nD Cert.KernelBits.τ).loc Cert.KernelBits.main_arg1)
      ∧ r.2.mem ((c.tc : Thread Cert.KernelBits.nD Cert.KernelBits.τ).loc Cert.KernelBits.main_arg2) = m ((c.tc : Thread Cert.KernelBits.nD Cert.KernelBits.τ).loc Cert.KernelBits.main_arg2)
      ∧ r.2.mem ((c.tc : Thread Cert.KernelBits.nD Cert.KernelBits.τ).loc Cert.KernelBits.main_arg3) = m ((c.tc : Thread Cert.KernelBits.nD Cert.KernelBits.τ).loc Cert.KernelBits.main_arg3)
      ∧ r.2.mem ((c.tc : Thread Cert.KernelBits.nD Cert.KernelBits.τ).loc Cert.KernelBits.main_arg4) = m ((c.tc : Thread Cert.KernelBits.nD Cert.KernelBits.τ).loc Cert.KernelBits.main_arg4)
      ∧ r.2.mem ((c.tc : Thread Cert.KernelBits.nD Cert.KernelBits.τ).loc Cert.KernelBits.main_arg5) = m ((c.tc : Thread Cert.KernelBits.nD Cert.KernelBits.τ).loc Cert.KernelBits.main_arg5)
      ∧ r.2.mem ((c.tc : Thread Cert.KernelBits.nD Cert.KernelBits.τ).loc Cert.KernelBits.main_arg6) = m ((c.tc : Thread Cert.KernelBits.nD Cert.KernelBits.τ).loc Cert.KernelBits.main_arg6)
      ∧ r.2.mem ((c.tc : Thread Cert.KernelBits.nD Cert.KernelBits.τ).loc Cert.KernelBits.main_arg7) = m ((c.tc : Thread Cert.KernelBits.nD Cert.KernelBits.τ).loc Cert.KernelBits.main_arg7)
      ∧ r.2.mem ((c.tc : Thread Cert.KernelBits.nD Cert.KernelBits.τ).loc Cert.KernelBits.main_arg8) = m ((c.tc : Thread Cert.KernelBits.nD Cert.KernelBits.τ).loc Cert.KernelBits.main_arg8)
      ∧ r.2.mem ((c.tc : Thread Cert.KernelBits.nD Cert.KernelBits.τ).loc Cert.KernelBits.main_arg9) = m ((c.tc : Thread Cert.KernelBits.nD Cert.KernelBits.τ).loc Cert.KernelBits.main_arg9)
      ∧ r.2.mem ((c.tc : Thread Cert.KernelBits.nD Cert.KernelBits.τ).loc Cert.KernelBits.main_arg10) = m ((c.tc : Thread Cert.KernelBits.nD Cert.KernelBits.τ).loc Cert.KernelBits.main_arg10))
      ∧ r.2.sem = fun _ => 0)

def quiescent_KernelPoly [hKernelPoly : Cert.KernelPoly.Facts] : Prop :=
  ∀ (m : (ℓ : Loc Cert.KernelPoly.nD Cert.KernelPoly.τ Cert.KernelPoly.sig) → Buf (Elt Bits) ℓ) (g : Dev Cert.KernelPoly.nD → PrngReg), Pre_KernelPoly m →
    θ_run (Cert.KernelPoly.defs (F := Bits)) (onTc (τ := Cert.KernelPoly.τ) (Cert.KernelPoly.main (F := Bits))) ⟨m, fun _ => 0, g⟩ (fun r => (∀ c : Dev Cert.KernelPoly.nD,
      r.2.mem ((c.tc : Thread Cert.KernelPoly.nD Cert.KernelPoly.τ).loc Cert.KernelPoly.main_arg0) = m ((c.tc : Thread Cert.KernelPoly.nD Cert.KernelPoly.τ).loc Cert.KernelPoly.main_arg0)
      ∧ r.2.mem ((c.tc : Thread Cert.KernelPoly.nD Cert.KernelPoly.τ).loc Cert.KernelPoly.main_arg1) = m ((c.tc : Thread Cert.KernelPoly.nD Cert.KernelPoly.τ).loc Cert.KernelPoly.main_arg1)
      ∧ r.2.mem ((c.tc : Thread Cert.KernelPoly.nD Cert.KernelPoly.τ).loc Cert.KernelPoly.main_arg2) = m ((c.tc : Thread Cert.KernelPoly.nD Cert.KernelPoly.τ).loc Cert.KernelPoly.main_arg2)
      ∧ r.2.mem ((c.tc : Thread Cert.KernelPoly.nD Cert.KernelPoly.τ).loc Cert.KernelPoly.main_arg3) = m ((c.tc : Thread Cert.KernelPoly.nD Cert.KernelPoly.τ).loc Cert.KernelPoly.main_arg3)
      ∧ r.2.mem ((c.tc : Thread Cert.KernelPoly.nD Cert.KernelPoly.τ).loc Cert.KernelPoly.main_arg4) = m ((c.tc : Thread Cert.KernelPoly.nD Cert.KernelPoly.τ).loc Cert.KernelPoly.main_arg4)
      ∧ r.2.mem ((c.tc : Thread Cert.KernelPoly.nD Cert.KernelPoly.τ).loc Cert.KernelPoly.main_arg5) = m ((c.tc : Thread Cert.KernelPoly.nD Cert.KernelPoly.τ).loc Cert.KernelPoly.main_arg5)
      ∧ r.2.mem ((c.tc : Thread Cert.KernelPoly.nD Cert.KernelPoly.τ).loc Cert.KernelPoly.main_arg6) = m ((c.tc : Thread Cert.KernelPoly.nD Cert.KernelPoly.τ).loc Cert.KernelPoly.main_arg6)
      ∧ r.2.mem ((c.tc : Thread Cert.KernelPoly.nD Cert.KernelPoly.τ).loc Cert.KernelPoly.main_arg7) = m ((c.tc : Thread Cert.KernelPoly.nD Cert.KernelPoly.τ).loc Cert.KernelPoly.main_arg7)
      ∧ r.2.mem ((c.tc : Thread Cert.KernelPoly.nD Cert.KernelPoly.τ).loc Cert.KernelPoly.main_arg8) = m ((c.tc : Thread Cert.KernelPoly.nD Cert.KernelPoly.τ).loc Cert.KernelPoly.main_arg8)
      ∧ r.2.mem ((c.tc : Thread Cert.KernelPoly.nD Cert.KernelPoly.τ).loc Cert.KernelPoly.main_arg9) = m ((c.tc : Thread Cert.KernelPoly.nD Cert.KernelPoly.τ).loc Cert.KernelPoly.main_arg9)
      ∧ r.2.mem ((c.tc : Thread Cert.KernelPoly.nD Cert.KernelPoly.τ).loc Cert.KernelPoly.main_arg10) = m ((c.tc : Thread Cert.KernelPoly.nD Cert.KernelPoly.τ).loc Cert.KernelPoly.main_arg10))
      ∧ r.2.sem = fun _ => 0)

def quiescent_KernelPolyIdeal [hKernelPolyIdeal : Cert.KernelPolyIdeal.Facts] : Prop :=
  ∀ (m : (ℓ : Loc Cert.KernelPolyIdeal.nD Cert.KernelPolyIdeal.τ Cert.KernelPolyIdeal.sig) → Buf (Elt Ideal) ℓ) (g : Dev Cert.KernelPolyIdeal.nD → PrngReg), Pre_KernelPolyIdeal m →
    θ_run (Cert.KernelPolyIdeal.defs (F := Ideal)) (onTc (τ := Cert.KernelPolyIdeal.τ) (Cert.KernelPolyIdeal.main (F := Ideal))) ⟨m, fun _ => 0, g⟩ (fun r => (∀ c : Dev Cert.KernelPolyIdeal.nD,
      r.2.mem ((c.tc : Thread Cert.KernelPolyIdeal.nD Cert.KernelPolyIdeal.τ).loc Cert.KernelPolyIdeal.main_arg0) = m ((c.tc : Thread Cert.KernelPolyIdeal.nD Cert.KernelPolyIdeal.τ).loc Cert.KernelPolyIdeal.main_arg0)
      ∧ r.2.mem ((c.tc : Thread Cert.KernelPolyIdeal.nD Cert.KernelPolyIdeal.τ).loc Cert.KernelPolyIdeal.main_arg1) = m ((c.tc : Thread Cert.KernelPolyIdeal.nD Cert.KernelPolyIdeal.τ).loc Cert.KernelPolyIdeal.main_arg1)
      ∧ r.2.mem ((c.tc : Thread Cert.KernelPolyIdeal.nD Cert.KernelPolyIdeal.τ).loc Cert.KernelPolyIdeal.main_arg2) = m ((c.tc : Thread Cert.KernelPolyIdeal.nD Cert.KernelPolyIdeal.τ).loc Cert.KernelPolyIdeal.main_arg2)
      ∧ r.2.mem ((c.tc : Thread Cert.KernelPolyIdeal.nD Cert.KernelPolyIdeal.τ).loc Cert.KernelPolyIdeal.main_arg3) = m ((c.tc : Thread Cert.KernelPolyIdeal.nD Cert.KernelPolyIdeal.τ).loc Cert.KernelPolyIdeal.main_arg3)
      ∧ r.2.mem ((c.tc : Thread Cert.KernelPolyIdeal.nD Cert.KernelPolyIdeal.τ).loc Cert.KernelPolyIdeal.main_arg4) = m ((c.tc : Thread Cert.KernelPolyIdeal.nD Cert.KernelPolyIdeal.τ).loc Cert.KernelPolyIdeal.main_arg4)
      ∧ r.2.mem ((c.tc : Thread Cert.KernelPolyIdeal.nD Cert.KernelPolyIdeal.τ).loc Cert.KernelPolyIdeal.main_arg5) = m ((c.tc : Thread Cert.KernelPolyIdeal.nD Cert.KernelPolyIdeal.τ).loc Cert.KernelPolyIdeal.main_arg5)
      ∧ r.2.mem ((c.tc : Thread Cert.KernelPolyIdeal.nD Cert.KernelPolyIdeal.τ).loc Cert.KernelPolyIdeal.main_arg6) = m ((c.tc : Thread Cert.KernelPolyIdeal.nD Cert.KernelPolyIdeal.τ).loc Cert.KernelPolyIdeal.main_arg6)
      ∧ r.2.mem ((c.tc : Thread Cert.KernelPolyIdeal.nD Cert.KernelPolyIdeal.τ).loc Cert.KernelPolyIdeal.main_arg7) = m ((c.tc : Thread Cert.KernelPolyIdeal.nD Cert.KernelPolyIdeal.τ).loc Cert.KernelPolyIdeal.main_arg7)
      ∧ r.2.mem ((c.tc : Thread Cert.KernelPolyIdeal.nD Cert.KernelPolyIdeal.τ).loc Cert.KernelPolyIdeal.main_arg8) = m ((c.tc : Thread Cert.KernelPolyIdeal.nD Cert.KernelPolyIdeal.τ).loc Cert.KernelPolyIdeal.main_arg8)
      ∧ r.2.mem ((c.tc : Thread Cert.KernelPolyIdeal.nD Cert.KernelPolyIdeal.τ).loc Cert.KernelPolyIdeal.main_arg9) = m ((c.tc : Thread Cert.KernelPolyIdeal.nD Cert.KernelPolyIdeal.τ).loc Cert.KernelPolyIdeal.main_arg9)
      ∧ r.2.mem ((c.tc : Thread Cert.KernelPolyIdeal.nD Cert.KernelPolyIdeal.τ).loc Cert.KernelPolyIdeal.main_arg10) = m ((c.tc : Thread Cert.KernelPolyIdeal.nD Cert.KernelPolyIdeal.τ).loc Cert.KernelPolyIdeal.main_arg10))
      ∧ r.2.sem = fun _ => 0)

def quiescent_KernelPolyIdeal_pre_bounded [hKernelPolyIdeal : Cert.KernelPolyIdeal.Facts] [hPre_bounded : Cert.Pre_bounded.Facts] : Prop :=
  ∀ (m : (ℓ : Loc Cert.KernelPolyIdeal.nD Cert.KernelPolyIdeal.τ Cert.KernelPolyIdeal.sig) → Buf (Elt Ideal) ℓ) (g : Dev Cert.KernelPolyIdeal.nD → PrngReg), Pre_KernelPolyIdeal_bounded m →
    θ_run (Cert.KernelPolyIdeal.defs (F := Ideal)) (onTc (τ := Cert.KernelPolyIdeal.τ) (Cert.KernelPolyIdeal.main (F := Ideal))) ⟨m, fun _ => 0, g⟩ (fun r => (∀ c : Dev Cert.KernelPolyIdeal.nD,
      r.2.mem ((c.tc : Thread Cert.KernelPolyIdeal.nD Cert.KernelPolyIdeal.τ).loc Cert.KernelPolyIdeal.main_arg0) = m ((c.tc : Thread Cert.KernelPolyIdeal.nD Cert.KernelPolyIdeal.τ).loc Cert.KernelPolyIdeal.main_arg0)
      ∧ r.2.mem ((c.tc : Thread Cert.KernelPolyIdeal.nD Cert.KernelPolyIdeal.τ).loc Cert.KernelPolyIdeal.main_arg1) = m ((c.tc : Thread Cert.KernelPolyIdeal.nD Cert.KernelPolyIdeal.τ).loc Cert.KernelPolyIdeal.main_arg1)
      ∧ r.2.mem ((c.tc : Thread Cert.KernelPolyIdeal.nD Cert.KernelPolyIdeal.τ).loc Cert.KernelPolyIdeal.main_arg2) = m ((c.tc : Thread Cert.KernelPolyIdeal.nD Cert.KernelPolyIdeal.τ).loc Cert.KernelPolyIdeal.main_arg2)
      ∧ r.2.mem ((c.tc : Thread Cert.KernelPolyIdeal.nD Cert.KernelPolyIdeal.τ).loc Cert.KernelPolyIdeal.main_arg3) = m ((c.tc : Thread Cert.KernelPolyIdeal.nD Cert.KernelPolyIdeal.τ).loc Cert.KernelPolyIdeal.main_arg3)
      ∧ r.2.mem ((c.tc : Thread Cert.KernelPolyIdeal.nD Cert.KernelPolyIdeal.τ).loc Cert.KernelPolyIdeal.main_arg4) = m ((c.tc : Thread Cert.KernelPolyIdeal.nD Cert.KernelPolyIdeal.τ).loc Cert.KernelPolyIdeal.main_arg4)
      ∧ r.2.mem ((c.tc : Thread Cert.KernelPolyIdeal.nD Cert.KernelPolyIdeal.τ).loc Cert.KernelPolyIdeal.main_arg5) = m ((c.tc : Thread Cert.KernelPolyIdeal.nD Cert.KernelPolyIdeal.τ).loc Cert.KernelPolyIdeal.main_arg5)
      ∧ r.2.mem ((c.tc : Thread Cert.KernelPolyIdeal.nD Cert.KernelPolyIdeal.τ).loc Cert.KernelPolyIdeal.main_arg6) = m ((c.tc : Thread Cert.KernelPolyIdeal.nD Cert.KernelPolyIdeal.τ).loc Cert.KernelPolyIdeal.main_arg6)
      ∧ r.2.mem ((c.tc : Thread Cert.KernelPolyIdeal.nD Cert.KernelPolyIdeal.τ).loc Cert.KernelPolyIdeal.main_arg7) = m ((c.tc : Thread Cert.KernelPolyIdeal.nD Cert.KernelPolyIdeal.τ).loc Cert.KernelPolyIdeal.main_arg7)
      ∧ r.2.mem ((c.tc : Thread Cert.KernelPolyIdeal.nD Cert.KernelPolyIdeal.τ).loc Cert.KernelPolyIdeal.main_arg8) = m ((c.tc : Thread Cert.KernelPolyIdeal.nD Cert.KernelPolyIdeal.τ).loc Cert.KernelPolyIdeal.main_arg8)
      ∧ r.2.mem ((c.tc : Thread Cert.KernelPolyIdeal.nD Cert.KernelPolyIdeal.τ).loc Cert.KernelPolyIdeal.main_arg9) = m ((c.tc : Thread Cert.KernelPolyIdeal.nD Cert.KernelPolyIdeal.τ).loc Cert.KernelPolyIdeal.main_arg9)
      ∧ r.2.mem ((c.tc : Thread Cert.KernelPolyIdeal.nD Cert.KernelPolyIdeal.τ).loc Cert.KernelPolyIdeal.main_arg10) = m ((c.tc : Thread Cert.KernelPolyIdeal.nD Cert.KernelPolyIdeal.τ).loc Cert.KernelPolyIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_KernelPoly_KernelPolyIdeal : Prop :=
  True

def holds_KernelPolyIdeal_near_pre_bounded [hKernelPolyIdeal : Cert.KernelPolyIdeal.Facts] [hPre_bounded : Cert.Pre_bounded.Facts] [hPost_near : Cert.Post_near.Facts] : Prop :=
  ∀ (m : (ℓ : Loc Cert.KernelPolyIdeal.nD Cert.KernelPolyIdeal.τ Cert.KernelPolyIdeal.sig) → Buf (Elt Ideal) ℓ) (g : Dev Cert.KernelPolyIdeal.nD → PrngReg), Pre_KernelPolyIdeal_bounded m →
    θ_run (Cert.KernelPolyIdeal.defs (F := Ideal)) (onTc (τ := Cert.KernelPolyIdeal.τ) (Cert.KernelPolyIdeal.main (F := Ideal))) ⟨m, fun _ => 0, g⟩ (fun r => ∀ c : Dev Cert.KernelPolyIdeal.nD,
      r.2.mem ((c.tc : Thread Cert.KernelPolyIdeal.nD Cert.KernelPolyIdeal.τ).loc Cert.KernelPolyIdeal.main_arg0) = m ((c.tc : Thread Cert.KernelPolyIdeal.nD Cert.KernelPolyIdeal.τ).loc Cert.KernelPolyIdeal.main_arg0)
      ∧ r.2.mem ((c.tc : Thread Cert.KernelPolyIdeal.nD Cert.KernelPolyIdeal.τ).loc Cert.KernelPolyIdeal.main_arg1) = m ((c.tc : Thread Cert.KernelPolyIdeal.nD Cert.KernelPolyIdeal.τ).loc Cert.KernelPolyIdeal.main_arg1)
      ∧ r.2.mem ((c.tc : Thread Cert.KernelPolyIdeal.nD Cert.KernelPolyIdeal.τ).loc Cert.KernelPolyIdeal.main_arg2) = m ((c.tc : Thread Cert.KernelPolyIdeal.nD Cert.KernelPolyIdeal.τ).loc Cert.KernelPolyIdeal.main_arg2)
      ∧ r.2.mem ((c.tc : Thread Cert.KernelPolyIdeal.nD Cert.KernelPolyIdeal.τ).loc Cert.KernelPolyIdeal.main_arg3) = m ((c.tc : Thread Cert.KernelPolyIdeal.nD Cert.KernelPolyIdeal.τ).loc Cert.KernelPolyIdeal.main_arg3)
      ∧ r.2.mem ((c.tc : Thread Cert.KernelPolyIdeal.nD Cert.KernelPolyIdeal.τ).loc Cert.KernelPolyIdeal.main_arg4) = m ((c.tc : Thread Cert.KernelPolyIdeal.nD Cert.KernelPolyIdeal.τ).loc Cert.KernelPolyIdeal.main_arg4)
      ∧ r.2.mem ((c.tc : Thread Cert.KernelPolyIdeal.nD Cert.KernelPolyIdeal.τ).loc Cert.KernelPolyIdeal.main_arg5) = m ((c.tc : Thread Cert.KernelPolyIdeal.nD Cert.KernelPolyIdeal.τ).loc Cert.KernelPolyIdeal.main_arg5)
      ∧ r.2.mem ((c.tc : Thread Cert.KernelPolyIdeal.nD Cert.KernelPolyIdeal.τ).loc Cert.KernelPolyIdeal.main_arg6) = m ((c.tc : Thread Cert.KernelPolyIdeal.nD Cert.KernelPolyIdeal.τ).loc Cert.KernelPolyIdeal.main_arg6)
      ∧ r.2.mem ((c.tc : Thread Cert.KernelPolyIdeal.nD Cert.KernelPolyIdeal.τ).loc Cert.KernelPolyIdeal.main_arg7) = m ((c.tc : Thread Cert.KernelPolyIdeal.nD Cert.KernelPolyIdeal.τ).loc Cert.KernelPolyIdeal.main_arg7)
      ∧ r.2.mem ((c.tc : Thread Cert.KernelPolyIdeal.nD Cert.KernelPolyIdeal.τ).loc Cert.KernelPolyIdeal.main_arg8) = m ((c.tc : Thread Cert.KernelPolyIdeal.nD Cert.KernelPolyIdeal.τ).loc Cert.KernelPolyIdeal.main_arg8)
      ∧ r.2.mem ((c.tc : Thread Cert.KernelPolyIdeal.nD Cert.KernelPolyIdeal.τ).loc Cert.KernelPolyIdeal.main_arg9) = m ((c.tc : Thread Cert.KernelPolyIdeal.nD Cert.KernelPolyIdeal.τ).loc Cert.KernelPolyIdeal.main_arg9)
      ∧ r.2.mem ((c.tc : Thread Cert.KernelPolyIdeal.nD Cert.KernelPolyIdeal.τ).loc Cert.KernelPolyIdeal.main_arg10) = m ((c.tc : Thread Cert.KernelPolyIdeal.nD Cert.KernelPolyIdeal.τ).loc Cert.KernelPolyIdeal.main_arg10)
      ∧ (Cert.Post_near.fn (F := Ideal) (m ((c.tc : Thread Cert.KernelPolyIdeal.nD Cert.KernelPolyIdeal.τ).loc Cert.KernelPolyIdeal.main_arg0)) (m ((c.tc : Thread Cert.KernelPolyIdeal.nD Cert.KernelPolyIdeal.τ).loc Cert.KernelPolyIdeal.main_arg1)) (m ((c.tc : Thread Cert.KernelPolyIdeal.nD Cert.KernelPolyIdeal.τ).loc Cert.KernelPolyIdeal.main_arg2)) (m ((c.tc : Thread Cert.KernelPolyIdeal.nD Cert.KernelPolyIdeal.τ).loc Cert.KernelPolyIdeal.main_arg3)) (m ((c.tc : Thread Cert.KernelPolyIdeal.nD Cert.KernelPolyIdeal.τ).loc Cert.KernelPolyIdeal.main_arg4)) (m ((c.tc : Thread Cert.KernelPolyIdeal.nD Cert.KernelPolyIdeal.τ).loc Cert.KernelPolyIdeal.main_arg5)) (m ((c.tc : Thread Cert.KernelPolyIdeal.nD Cert.KernelPolyIdeal.τ).loc Cert.KernelPolyIdeal.main_arg6)) (m ((c.tc : Thread Cert.KernelPolyIdeal.nD Cert.KernelPolyIdeal.τ).loc Cert.KernelPolyIdeal.main_arg7)) (m ((c.tc : Thread Cert.KernelPolyIdeal.nD Cert.KernelPolyIdeal.τ).loc Cert.KernelPolyIdeal.main_arg8)) (m ((c.tc : Thread Cert.KernelPolyIdeal.nD Cert.KernelPolyIdeal.τ).loc Cert.KernelPolyIdeal.main_arg9)) (m ((c.tc : Thread Cert.KernelPolyIdeal.nD Cert.KernelPolyIdeal.τ).loc Cert.KernelPolyIdeal.main_arg10)) (r.2.mem ((c.tc : Thread Cert.KernelPolyIdeal.nD Cert.KernelPolyIdeal.τ).loc Cert.KernelPolyIdeal.main_v16_0)) (r.2.mem ((c.tc : Thread Cert.KernelPolyIdeal.nD Cert.KernelPolyIdeal.τ).loc Cert.KernelPolyIdeal.main_v16_1))).1 = (fun _ => 1#1)
      ∧ (Cert.Post_near.fn (F := Ideal) (m ((c.tc : Thread Cert.KernelPolyIdeal.nD Cert.KernelPolyIdeal.τ).loc Cert.KernelPolyIdeal.main_arg0)) (m ((c.tc : Thread Cert.KernelPolyIdeal.nD Cert.KernelPolyIdeal.τ).loc Cert.KernelPolyIdeal.main_arg1)) (m ((c.tc : Thread Cert.KernelPolyIdeal.nD Cert.KernelPolyIdeal.τ).loc Cert.KernelPolyIdeal.main_arg2)) (m ((c.tc : Thread Cert.KernelPolyIdeal.nD Cert.KernelPolyIdeal.τ).loc Cert.KernelPolyIdeal.main_arg3)) (m ((c.tc : Thread Cert.KernelPolyIdeal.nD Cert.KernelPolyIdeal.τ).loc Cert.KernelPolyIdeal.main_arg4)) (m ((c.tc : Thread Cert.KernelPolyIdeal.nD Cert.KernelPolyIdeal.τ).loc Cert.KernelPolyIdeal.main_arg5)) (m ((c.tc : Thread Cert.KernelPolyIdeal.nD Cert.KernelPolyIdeal.τ).loc Cert.KernelPolyIdeal.main_arg6)) (m ((c.tc : Thread Cert.KernelPolyIdeal.nD Cert.KernelPolyIdeal.τ).loc Cert.KernelPolyIdeal.main_arg7)) (m ((c.tc : Thread Cert.KernelPolyIdeal.nD Cert.KernelPolyIdeal.τ).loc Cert.KernelPolyIdeal.main_arg8)) (m ((c.tc : Thread Cert.KernelPolyIdeal.nD Cert.KernelPolyIdeal.τ).loc Cert.KernelPolyIdeal.main_arg9)) (m ((c.tc : Thread Cert.KernelPolyIdeal.nD Cert.KernelPolyIdeal.τ).loc Cert.KernelPolyIdeal.main_arg10)) (r.2.mem ((c.tc : Thread Cert.KernelPolyIdeal.nD Cert.KernelPolyIdeal.τ).loc Cert.KernelPolyIdeal.main_v16_0)) (r.2.mem ((c.tc : Thread Cert.KernelPolyIdeal.nD Cert.KernelPolyIdeal.τ).loc Cert.KernelPolyIdeal.main_v16_1))).2.1 = (fun _ => 1#1)
      ∧ (Cert.Post_near.fn (F := Ideal) (m ((c.tc : Thread Cert.KernelPolyIdeal.nD Cert.KernelPolyIdeal.τ).loc Cert.KernelPolyIdeal.main_arg0)) (m ((c.tc : Thread Cert.KernelPolyIdeal.nD Cert.KernelPolyIdeal.τ).loc Cert.KernelPolyIdeal.main_arg1)) (m ((c.tc : Thread Cert.KernelPolyIdeal.nD Cert.KernelPolyIdeal.τ).loc Cert.KernelPolyIdeal.main_arg2)) (m ((c.tc : Thread Cert.KernelPolyIdeal.nD Cert.KernelPolyIdeal.τ).loc Cert.KernelPolyIdeal.main_arg3)) (m ((c.tc : Thread Cert.KernelPolyIdeal.nD Cert.KernelPolyIdeal.τ).loc Cert.KernelPolyIdeal.main_arg4)) (m ((c.tc : Thread Cert.KernelPolyIdeal.nD Cert.KernelPolyIdeal.τ).loc Cert.KernelPolyIdeal.main_arg5)) (m ((c.tc : Thread Cert.KernelPolyIdeal.nD Cert.KernelPolyIdeal.τ).loc Cert.KernelPolyIdeal.main_arg6)) (m ((c.tc : Thread Cert.KernelPolyIdeal.nD Cert.KernelPolyIdeal.τ).loc Cert.KernelPolyIdeal.main_arg7)) (m ((c.tc : Thread Cert.KernelPolyIdeal.nD Cert.KernelPolyIdeal.τ).loc Cert.KernelPolyIdeal.main_arg8)) (m ((c.tc : Thread Cert.KernelPolyIdeal.nD Cert.KernelPolyIdeal.τ).loc Cert.KernelPolyIdeal.main_arg9)) (m ((c.tc : Thread Cert.KernelPolyIdeal.nD Cert.KernelPolyIdeal.τ).loc Cert.KernelPolyIdeal.main_arg10)) (r.2.mem ((c.tc : Thread Cert.KernelPolyIdeal.nD Cert.KernelPolyIdeal.τ).loc Cert.KernelPolyIdeal.main_v16_0)) (r.2.mem ((c.tc : Thread Cert.KernelPolyIdeal.nD Cert.KernelPolyIdeal.τ).loc Cert.KernelPolyIdeal.main_v16_1))).2.2 = (fun _ => 1#1))

def Claim : Prop :=
  ∃ (hKernel : Cert.Kernel.Facts) (hKernelIdeal : Cert.KernelIdeal.Facts) (hReferenceIdeal : Cert.ReferenceIdeal.Facts) (hKernelBits : Cert.KernelBits.Facts) (hKernelPoly : Cert.KernelPoly.Facts) (hKernelPolyIdeal : Cert.KernelPolyIdeal.Facts) (hPre_bounded : Cert.Pre_bounded.Facts) (hPost_near : Cert.Post_near.Facts),
    quiescent_Kernel (hKernel := hKernel)
    ∧ quiescent_KernelIdeal (hKernelIdeal := hKernelIdeal)
    ∧ quiescent_ReferenceIdeal (hReferenceIdeal := hReferenceIdeal)
    ∧ quiescent_KernelBits (hKernelBits := hKernelBits)
    ∧ quiescent_KernelPoly (hKernelPoly := hKernelPoly)
    ∧ quiescent_KernelPolyIdeal (hKernelPolyIdeal := hKernelPolyIdeal)
    ∧ quiescent_KernelPolyIdeal_pre_bounded (hKernelPolyIdeal := hKernelPolyIdeal) (hPre_bounded := hPre_bounded)
    ∧ preserves_Kernel_KernelIdeal
    ∧ algebraic_KernelIdeal_ReferenceIdeal (hKernelIdeal := hKernelIdeal) (hReferenceIdeal := hReferenceIdeal)
    ∧ preserves_KernelPoly_KernelPolyIdeal
    ∧ holds_KernelPolyIdeal_near_pre_bounded (hKernelPolyIdeal := hKernelPolyIdeal) (hPre_bounded := hPre_bounded) (hPost_near := hPost_near)
-- ==== Post_near.lean ====
abbrev S16x512x64 : Shape := ⟨3, ![16, 512, 64]⟩
abbrev S1x127 : Shape := ⟨2, ![1, 127]⟩
abbrev S127 : Shape := ⟨1, ![127]⟩
abbrev S1x1 : Shape := ⟨2, ![1, 1]⟩
abbrev S1 : Shape := ⟨1, ![1]⟩
abbrev S2x128 : Shape := ⟨2, ![2, 128]⟩
abbrev S128 : Shape := ⟨1, ![128]⟩
abbrev S64x128 : Shape := ⟨2, ![64, 128]⟩
abbrev S1024x513x128 : Shape := ⟨3, ![1024, 513, 128]⟩
abbrev S16x1x64x128 : Shape := ⟨4, ![16, 1, 64, 128]⟩
abbrev S16x512x64x1 : Shape := ⟨4, ![16, 512, 64, 1]⟩
abbrev S1x1x1x1 : Shape := ⟨4, ![1, 1, 1, 1]⟩
abbrev S16x512x64x127 : Shape := ⟨4, ![16, 512, 64, 127]⟩
abbrev S1x1x1x127 : Shape := ⟨4, ![1, 1, 1, 127]⟩
abbrev S16x512x64x128 : Shape := ⟨4, ![16, 512, 64, 128]⟩
abbrev S16x512x64x2 : Shape := ⟨4, ![16, 512, 64, 2]⟩
abbrev S1x1x1x128 : Shape := ⟨4, ![1, 1, 1, 128]⟩
abbrev S_ : Shape := ⟨0, ![]⟩
abbrev S64 : Shape := ⟨1, ![64]⟩
abbrev S1x1x64 : Shape := ⟨3, ![1, 1, 64]⟩
abbrev S16x1x64 : Shape := ⟨3, ![16, 1, 64]⟩
abbrev S16x1x64x1 : Shape := ⟨4, ![16, 1, 64, 1]⟩
abbrev S16x513x64x128 : Shape := ⟨4, ![16, 513, 64, 128]⟩
abbrev S16x64x513x128 : Shape := ⟨4, ![16, 64, 513, 128]⟩

class Facts : Prop where
  bcast_S16x512x64_S16x512x64x1_0_1_2 : S16x512x64.BroadcastsInDim S16x512x64x1 (![0, 1, 2] : Fin 3 → Fin S16x512x64x1.rank)
  bcast_S1_S1x1x1x1_3 : S1.BroadcastsInDim S1x1x1x1 (![3] : Fin 1 → Fin S1x1x1x1.rank)
  bcast_S1x1x1x1_S16x512x64x1_0_1_2_3 : S1x1x1x1.BroadcastsInDim S16x512x64x1 (![0, 1, 2, 3] : Fin 4 → Fin S16x512x64x1.rank)
  bcast_S127_S1x1x1x127_3 : S127.BroadcastsInDim S1x1x1x127 (![3] : Fin 1 → Fin S1x1x1x127.rank)
  bcast_S1x1x1x127_S16x512x64x127_0_1_2_3 : S1x1x1x127.BroadcastsInDim S16x512x64x127 (![0, 1, 2, 3] : Fin 4 → Fin S16x512x64x127.rank)
  concatenates_S16x512x64x1_S16x512x64x127_S16x512x64x128_d3 : Shape.Concatenates [S16x512x64x1, S16x512x64x127] S16x512x64x128 3
  concatenates_S16x512x64x1_S16x512x64x1_S16x512x64x2_d3 : Shape.Concatenates [S16x512x64x1, S16x512x64x1] S16x512x64x2 3
  bcast_S128_S1x1x1x128_3 : S128.BroadcastsInDim S1x1x1x128 (![3] : Fin 1 → Fin S1x1x1x128.rank)
  bcast_S1x1x1x128_S16x512x64x128_0_1_2_3 : S1x1x1x128.BroadcastsInDim S16x512x64x128 (![0, 1, 2, 3] : Fin 4 → Fin S16x512x64x128.rank)
  bcast_S_S16x512x64 : S_.BroadcastsInDim S16x512x64 (![] : Fin 0 → Fin S16x512x64.rank)
  bcast_S_S16x512x64x1 : S_.BroadcastsInDim S16x512x64x1 (![] : Fin 0 → Fin S16x512x64x1.rank)
  reducesTo_S16x512x64x1_S16x512x64_d3 : S16x512x64x1.ReducesTo [3] S16x512x64
  h_S_ : 0 < S_.numel
  bcast_S16x512x64_S16x512x64x128_0_1_2 : S16x512x64.BroadcastsInDim S16x512x64x128 (![0, 1, 2] : Fin 3 → Fin S16x512x64x128.rank)
  bcast_S_S16x512x64x128 : S_.BroadcastsInDim S16x512x64x128 (![] : Fin 0 → Fin S16x512x64x128.rank)
  bcast_S16x512x64x1_S16x512x64x128_0_1_2_3 : S16x512x64x1.BroadcastsInDim S16x512x64x128 (![0, 1, 2, 3] : Fin 4 → Fin S16x512x64x128.rank)
  bcast_S64_S1x1x64_2 : S64.BroadcastsInDim S1x1x64 (![2] : Fin 1 → Fin S1x1x64.rank)
  bcast_S1x1x64_S16x1x64_0_1_2 : S1x1x64.BroadcastsInDim S16x1x64 (![0, 1, 2] : Fin 3 → Fin S16x1x64.rank)
  bcast_S_S16x1x64 : S_.BroadcastsInDim S16x1x64 (![] : Fin 0 → Fin S16x1x64.rank)
  bcast_S16x1x64_S16x1x64x1_0_1_2 : S16x1x64.BroadcastsInDim S16x1x64x1 (![0, 1, 2] : Fin 3 → Fin S16x1x64x1.rank)
  bcast_S_S16x1x64x1 : S_.BroadcastsInDim S16x1x64x1 (![] : Fin 0 → Fin S16x1x64x1.rank)
  bcast_S1x1x1x1_S16x1x64x1_0_1_2_3 : S1x1x1x1.BroadcastsInDim S16x1x64x1 (![0, 1, 2, 3] : Fin 4 → Fin S16x1x64x1.rank)
  reducesTo_S16x1x64x1_S16x1x64_d3 : S16x1x64x1.ReducesTo [3] S16x1x64
  bcast_S16x1x64_S16x1x64x128_0_1_2 : S16x1x64.BroadcastsInDim S16x1x64x128 (![0, 1, 2] : Fin 3 → Fin S16x1x64x128.rank)
  bcast_S_S16x1x64x128 : S_.BroadcastsInDim S16x1x64x128 (![] : Fin 0 → Fin S16x1x64x128.rank)
  concatenates_S16x1x64x128_S16x512x64x128_S16x513x64x128_d1 : Shape.Concatenates [S16x1x64x128, S16x512x64x128] S16x513x64x128 1
  transposes_S16x513x64x128_S16x64x513x128_0_2_1_3 : S16x513x64x128.Transposes [0, 2, 1, 3] S16x64x513x128
  shapeCasts_S16x64x513x128_S1024x513x128 : S16x64x513x128.ShapeCasts S1024x513x128
  bcast_S_S1024x513x128 : S_.BroadcastsInDim S1024x513x128 (![] : Fin 0 → Fin S1024x513x128.rank)
  dot_S16x512x64x1_S1x1_S16x512x64x1_3_0_012_1_n_n_wf : DotDims.WF S16x512x64x1 S1x1 S16x512x64x1 [3] [0] [0, 1, 2] [1] [] []
  dot_S16x512x64x1_S1x127_S16x512x64x127_3_0_012_1_n_n_wf : DotDims.WF S16x512x64x1 S1x127 S16x512x64x127 [3] [0] [0, 1, 2] [1] [] []
  dot_S16x512x64x2_S2x128_S16x512x64x128_3_0_012_1_n_n_wf : DotDims.WF S16x512x64x2 S2x128 S16x512x64x128 [3] [0] [0, 1, 2] [1] [] []
  gather_S2x128_S16x512x64x1_S16x512x64x128_3_0_n_n_0_3_1128_wf : GatherDims.WF S2x128 S16x512x64x1 S16x512x64x128 [3] [0] [] [0] [] 3 ![1, 128]
  gather_S64x128_S16x1x64x1_S16x1x64x128_3_0_n_n_0_3_1128_wf : GatherDims.WF S64x128 S16x1x64x1 S16x1x64x128 [3] [0] [] [0] [] 3 ![1, 128]
  gather_S2x128_S16x1x64x1_S16x1x64x128_3_0_n_n_0_3_1128_wf : GatherDims.WF S2x128 S16x1x64x1 S16x1x64x128 [3] [0] [] [0] [] 3 ![1, 128]

variable [Facts]

def dot_S16x512x64x1_S1x1_S16x512x64x1_3_0_012_1_n_n : DotDims S16x512x64x1 S1x1 S16x512x64x1 where
  lhsContracting := [3]
  rhsContracting := [0]
  lhsNonContracting := [0, 1, 2]
  rhsNonContracting := [1]
  lhsBatch := []
  rhsBatch := []
  wf := dot_S16x512x64x1_S1x1_S16x512x64x1_3_0_012_1_n_n_wf
def dot_S16x512x64x1_S1x127_S16x512x64x127_3_0_012_1_n_n : DotDims S16x512x64x1 S1x127 S16x512x64x127 where
  lhsContracting := [3]
  rhsContracting := [0]
  lhsNonContracting := [0, 1, 2]
  rhsNonContracting := [1]
  lhsBatch := []
  rhsBatch := []
  wf := dot_S16x512x64x1_S1x127_S16x512x64x127_3_0_012_1_n_n_wf
def dot_S16x512x64x2_S2x128_S16x512x64x128_3_0_012_1_n_n : DotDims S16x512x64x2 S2x128 S16x512x64x128 where
  lhsContracting := [3]
  rhsContracting := [0]
  lhsNonContracting := [0, 1, 2]
  rhsNonContracting := [1]
  lhsBatch := []
  rhsBatch := []
  wf := dot_S16x512x64x2_S2x128_S16x512x64x128_3_0_012_1_n_n_wf
def gather_S2x128_S16x512x64x1_S16x512x64x128_3_0_n_n_0_3_1128 : GatherDims S2x128 S16x512x64x1 S16x512x64x128 where
  offsetDims := [3]
  collapsedSliceDims := [0]
  operandBatchingDims := []
  startIndicesBatchingDims := []
  startIndexMap := [0]
  indexVectorDim := 3
  sliceSizes := ![1, 128]
  wf := gather_S2x128_S16x512x64x1_S16x512x64x128_3_0_n_n_0_3_1128_wf
def gather_S64x128_S16x1x64x1_S16x1x64x128_3_0_n_n_0_3_1128 : GatherDims S64x128 S16x1x64x1 S16x1x64x128 where
  offsetDims := [3]
  collapsedSliceDims := [0]
  operandBatchingDims := []
  startIndicesBatchingDims := []
  startIndexMap := [0]
  indexVectorDim := 3
  sliceSizes := ![1, 128]
  wf := gather_S64x128_S16x1x64x1_S16x1x64x128_3_0_n_n_0_3_1128_wf
def gather_S2x128_S16x1x64x1_S16x1x64x128_3_0_n_n_0_3_1128 : GatherDims S2x128 S16x1x64x1 S16x1x64x128 where
  offsetDims := [3]
  collapsedSliceDims := [0]
  operandBatchingDims := []
  startIndicesBatchingDims := []
  startIndexMap := [0]
  indexVectorDim := 3
  sliceSizes := ![1, 128]
  wf := gather_S2x128_S16x1x64x1_S16x1x64x128_3_0_n_n_0_3_1128_wf
def fn_where {F : FTy → Type} [FloatOps F] (arg0 : IVec S16x512x64 1) (arg1 : IVec S16x512x64 32) (arg2 : IVec S16x512x64 32) : IVec S16x512x64 32 :=
  let v0 : IVec S16x512x64 32 := select arg0 arg1 arg2
  v0

def fn_take {F : FTy → Type} [FloatOps F] (arg0 : FVec F S2x128 .f32) (arg1 : IVec S16x512x64 32) : FVec F S16x512x64x128 .f32 :=
  let c : IVec S_ 32 := constantI S_ 32 0#32
  let v0 : IVec S16x512x64 32 := broadcastInDim S16x512x64 ![] bcast_S_S16x512x64 c
  let v1 : IVec S16x512x64 1 := cmpi .slt arg1 v0
  let c_0 : IVec S_ 32 := constantI S_ 32 2#32
  let v2 : IVec S16x512x64 32 := broadcastInDim S16x512x64 ![] bcast_S_S16x512x64 c_0
  let v3 : IVec S16x512x64 32 := addi arg1 v2
  let v4 : IVec S16x512x64 32 := fn_where (F := F) v1 v3 arg1
  let v5 : IVec S16x512x64x1 32 := broadcastInDim S16x512x64x1 ![0, 1, 2] bcast_S16x512x64_S16x512x64x1_0_1_2 v4
  let c_1 : IVec S1 32 := constantI S1 32 1#32
  let c_2 : IVec S_ 32 := constantI S_ 32 0#32
  let v6 : IVec S16x512x64x1 32 := broadcastInDim S16x512x64x1 ![] bcast_S_S16x512x64x1 c_2
  let v7 : IVec S16x512x64x1 1 := cmpi .sge v5 v6
  let v8 : IVec S1x1x1x1 32 := broadcastInDim S1x1x1x1 ![3] bcast_S1_S1x1x1x1_3 c_1
  let v9 : IVec S16x512x64x1 32 := broadcastInDim S16x512x64x1 ![0, 1, 2, 3] bcast_S1x1x1x1_S16x512x64x1_0_1_2_3 v8
  let v10 : IVec S16x512x64x1 1 := cmpi .sle v5 v9
  let v11 : IVec S16x512x64x1 1 := andi v7 v10
  let c_3 : IVec S_ 1 := constantI S_ 1 1#1
  let v12 : IVec S16x512x64 1 := (fun x v => Host.reduce IntOp.andi x v reducesTo_S16x512x64x1_S16x512x64_d3 h_S_) v11 c_3
  let v13 : FVec F S16x512x64x128 .f32 := (fun x i => Host.gather gather_S2x128_S16x512x64x1_S16x512x64x128_3_0_n_n_0_3_1128 x i) arg0 v5
  let v14 : IVec S16x512x64x128 1 := broadcastInDim S16x512x64x128 ![0, 1, 2] bcast_S16x512x64_S16x512x64x128_0_1_2 v12
  let cst : FVec F S_ .f32 := constant S_ .f32 0x7FC00000#32
  let v15 : FVec F S16x512x64x128 .f32 := broadcastInDim S16x512x64x128 ![] bcast_S_S16x512x64x128 cst
  let v16 : FVec F S16x512x64x128 .f32 := select v14 v13 v15
  v16

def fn_where_1 {F : FTy → Type} [FloatOps F] (arg0 : IVec S16x1x64 1) (arg1 : IVec S16x1x64 32) (arg2 : IVec S16x1x64 32) : IVec S16x1x64 32 :=
  let v0 : IVec S16x1x64 32 := select arg0 arg1 arg2
  v0

def fn_take_0 {F : FTy → Type} [FloatOps F] (arg0 : FVec F S64x128 .f32) (arg1 : IVec S16x1x64 32) : FVec F S16x1x64x128 .f32 :=
  let c : IVec S_ 32 := constantI S_ 32 0#32
  let v0 : IVec S16x1x64 32 := broadcastInDim S16x1x64 ![] bcast_S_S16x1x64 c
  let v1 : IVec S16x1x64 1 := cmpi .slt arg1 v0
  let c_0 : IVec S_ 32 := constantI S_ 32 64#32
  let v2 : IVec S16x1x64 32 := broadcastInDim S16x1x64 ![] bcast_S_S16x1x64 c_0
  let v3 : IVec S16x1x64 32 := addi arg1 v2
  let v4 : IVec S16x1x64 32 := fn_where_1 (F := F) v1 v3 arg1
  let v5 : IVec S16x1x64x1 32 := broadcastInDim S16x1x64x1 ![0, 1, 2] bcast_S16x1x64_S16x1x64x1_0_1_2 v4
  let c_1 : IVec S1 32 := constantI S1 32 63#32
  let c_2 : IVec S_ 32 := constantI S_ 32 0#32
  let v6 : IVec S16x1x64x1 32 := broadcastInDim S16x1x64x1 ![] bcast_S_S16x1x64x1 c_2
  let v7 : IVec S16x1x64x1 1 := cmpi .sge v5 v6
  let v8 : IVec S1x1x1x1 32 := broadcastInDim S1x1x1x1 ![3] bcast_S1_S1x1x1x1_3 c_1
  let v9 : IVec S16x1x64x1 32 := broadcastInDim S16x1x64x1 ![0, 1, 2, 3] bcast_S1x1x1x1_S16x1x64x1_0_1_2_3 v8
  let v10 : IVec S16x1x64x1 1 := cmpi .sle v5 v9
  let v11 : IVec S16x1x64x1 1 := andi v7 v10
  let c_3 : IVec S_ 1 := constantI S_ 1 1#1
  let v12 : IVec S16x1x64 1 := (fun x v => Host.reduce IntOp.andi x v reducesTo_S16x1x64x1_S16x1x64_d3 h_S_) v11 c_3
  let v13 : FVec F S16x1x64x128 .f32 := (fun x i => Host.gather gather_S64x128_S16x1x64x1_S16x1x64x128_3_0_n_n_0_3_1128 x i) arg0 v5
  let v14 : IVec S16x1x64x128 1 := broadcastInDim S16x1x64x128 ![0, 1, 2] bcast_S16x1x64_S16x1x64x128_0_1_2 v12
  let cst : FVec F S_ .f32 := constant S_ .f32 0x7FC00000#32
  let v15 : FVec F S16x1x64x128 .f32 := broadcastInDim S16x1x64x128 ![] bcast_S_S16x1x64x128 cst
  let v16 : FVec F S16x1x64x128 .f32 := select v14 v13 v15
  v16

def fn_take_2 {F : FTy → Type} [FloatOps F] (arg0 : FVec F S2x128 .f32) (arg1 : IVec S16x1x64 32) : FVec F S16x1x64x128 .f32 :=
  let c : IVec S_ 32 := constantI S_ 32 0#32
  let v0 : IVec S16x1x64 32 := broadcastInDim S16x1x64 ![] bcast_S_S16x1x64 c
  let v1 : IVec S16x1x64 1 := cmpi .slt arg1 v0
  let c_0 : IVec S_ 32 := constantI S_ 32 2#32
  let v2 : IVec S16x1x64 32 := broadcastInDim S16x1x64 ![] bcast_S_S16x1x64 c_0
  let v3 : IVec S16x1x64 32 := addi arg1 v2
  let v4 : IVec S16x1x64 32 := fn_where_1 (F := F) v1 v3 arg1
  let v5 : IVec S16x1x64x1 32 := broadcastInDim S16x1x64x1 ![0, 1, 2] bcast_S16x1x64_S16x1x64x1_0_1_2 v4
  let c_1 : IVec S1 32 := constantI S1 32 1#32
  let c_2 : IVec S_ 32 := constantI S_ 32 0#32
  let v6 : IVec S16x1x64x1 32 := broadcastInDim S16x1x64x1 ![] bcast_S_S16x1x64x1 c_2
  let v7 : IVec S16x1x64x1 1 := cmpi .sge v5 v6
  let v8 : IVec S1x1x1x1 32 := broadcastInDim S1x1x1x1 ![3] bcast_S1_S1x1x1x1_3 c_1
  let v9 : IVec S16x1x64x1 32 := broadcastInDim S16x1x64x1 ![0, 1, 2, 3] bcast_S1x1x1x1_S16x1x64x1_0_1_2_3 v8
  let v10 : IVec S16x1x64x1 1 := cmpi .sle v5 v9
  let v11 : IVec S16x1x64x1 1 := andi v7 v10
  let c_3 : IVec S_ 1 := constantI S_ 1 1#1
  let v12 : IVec S16x1x64 1 := (fun x v => Host.reduce IntOp.andi x v reducesTo_S16x1x64x1_S16x1x64_d3 h_S_) v11 c_3
  let v13 : FVec F S16x1x64x128 .f32 := (fun x i => Host.gather gather_S2x128_S16x1x64x1_S16x1x64x128_3_0_n_n_0_3_1128 x i) arg0 v5
  let v14 : IVec S16x1x64x128 1 := broadcastInDim S16x1x64x128 ![0, 1, 2] bcast_S16x1x64_S16x1x64x128_0_1_2 v12
  let cst : FVec F S_ .f32 := constant S_ .f32 0x7FC00000#32
  let v15 : FVec F S16x1x64x128 .f32 := broadcastInDim S16x1x64x128 ![] bcast_S_S16x1x64x128 cst
  let v16 : FVec F S16x1x64x128 .f32 := select v14 v13 v15
  v16

def fn_part1 {F : FTy → Type} [FloatOps F] (main_arg9 : FVec F S64x128 .f32) (main_arg10 : FVec F S2x128 .f32) (main_arg11 : FVec F S1024x513x128 .f32) (main_arg12 : FVec F S16x1x64x128 .f32) (main_v17 : FVec F S16x512x64x128 .f32) (main_v19 : FVec F S16x512x64x128 .f32) (main_v22 : FVec F S16x512x64x128 .f32) : IVec S1024x513x128 1 × IVec S1024x513x128 1 × IVec S16x1x64x128 1 :=
  let main_v23 : FVec F S16x512x64x128 .f32 := addf main_v22 main_v17
  let main_v24 : FVec F S16x512x64x128 .f32 := addf main_v23 main_v19
  let main_v25 : IVec S64 32 := iotaInDim S64 32 0
  let main_v26 : IVec S1x1x64 32 := broadcastInDim S1x1x64 ![2] bcast_S64_S1x1x64_2 main_v25
  let main_v27 : IVec S16x1x64 32 := broadcastInDim S16x1x64 ![0, 1, 2] bcast_S1x1x64_S16x1x64_0_1_2 main_v26
  let main_c_0 : IVec S_ 32 := constantI S_ 32 0#32
  let main_v28 : IVec S16x1x64 32 := broadcastInDim S16x1x64 ![] bcast_S_S16x1x64 main_c_0
  let main_v29 : FVec F S16x1x64x128 .f32 := fn_take_0 (F := F) main_arg9 main_v27
  let main_v30 : FVec F S16x1x64x128 .f32 := fn_take_2 (F := F) main_arg10 main_v28
  let main_v31 : FVec F S16x1x64x128 .f32 := addf main_v29 main_v30
  let main_v32 : FVec F S16x513x64x128 .f32 := (fun a b => concatenate S16x513x64x128 1 [⟨S16x1x64x128, a⟩, ⟨S16x512x64x128, b⟩] concatenates_S16x1x64x128_S16x512x64x128_S16x513x64x128_d1) main_v31 main_v24
  let main_v33 : FVec F S16x64x513x128 .f32 := (transpose S16x64x513x128 [0, 2, 1, 3] · transposes_S16x513x64x128_S16x64x513x128_0_2_1_3) main_v32
  let main_v34 : FVec F S1024x513x128 .f32 := shapeCast S1024x513x128 main_v33 shapeCasts_S16x64x513x128_S1024x513x128
  let main_cst : FVec F S_ .f32 := constant S_ .f32 0x358637BD#32
  let main_v35 : FVec F S1024x513x128 .f32 := broadcastInDim S1024x513x128 ![] bcast_S_S1024x513x128 main_cst
  let main_v36 : FVec F S1024x513x128 .f32 := addf main_v34 main_v35
  let main_v37 : IVec S1024x513x128 1 := cmpf .ole main_arg11 main_v36
  let main_cst_1 : FVec F S_ .f32 := constant S_ .f32 0x358637BD#32
  let main_v38 : FVec F S1024x513x128 .f32 := broadcastInDim S1024x513x128 ![] bcast_S_S1024x513x128 main_cst_1
  let main_v39 : FVec F S1024x513x128 .f32 := addf main_arg11 main_v38
  let main_v40 : IVec S1024x513x128 1 := cmpf .ole main_v34 main_v39
  let main_v41 : IVec S16x1x64x128 1 := cmpf .oeq main_arg12 main_v31
  (main_v37, main_v40, main_v41)

def fn {F : FTy → Type} [FloatOps F] (main_arg0 : FVec F S16x512x64 .f32) (main_arg1 : FVec F S16x512x64 .f32) (main_arg2 : FVec F S16x512x64 .f32) (main_arg3 : FVec F S1x127 .f32) (main_arg4 : FVec F S127 .f32) (main_arg5 : FVec F S1x1 .f32) (main_arg6 : FVec F S1 .f32) (main_arg7 : FVec F S2x128 .f32) (main_arg8 : FVec F S128 .f32) (main_arg9 : FVec F S64x128 .f32) (main_arg10 : FVec F S2x128 .f32) (main_arg11 : FVec F S1024x513x128 .f32) (main_arg12 : FVec F S16x1x64x128 .f32) : IVec S1024x513x128 1 × IVec S1024x513x128 1 × IVec S16x1x64x128 1 :=
  let main_v0 : FVec F S16x512x64x1 .f32 := broadcastInDim S16x512x64x1 ![0, 1, 2] bcast_S16x512x64_S16x512x64x1_0_1_2 main_arg0
  let main_v1 : FVec F S16x512x64x1 .f32 := (fun l r => Host.dotGeneral dot_S16x512x64x1_S1x1_S16x512x64x1_3_0_012_1_n_n none l r) main_v0 main_arg5
  let main_v2 : FVec F S1x1x1x1 .f32 := broadcastInDim S1x1x1x1 ![3] bcast_S1_S1x1x1x1_3 main_arg6
  let main_v3 : FVec F S16x512x64x1 .f32 := broadcastInDim S16x512x64x1 ![0, 1, 2, 3] bcast_S1x1x1x1_S16x512x64x1_0_1_2_3 main_v2
  let main_v4 : FVec F S16x512x64x1 .f32 := addf main_v1 main_v3
  let main_v5 : FVec F S16x512x64x127 .f32 := (fun l r => Host.dotGeneral dot_S16x512x64x1_S1x127_S16x512x64x127_3_0_012_1_n_n none l r) main_v0 main_arg3
  let main_v6 : FVec F S1x1x1x127 .f32 := broadcastInDim S1x1x1x127 ![3] bcast_S127_S1x1x1x127_3 main_arg4
  let main_v7 : FVec F S16x512x64x127 .f32 := broadcastInDim S16x512x64x127 ![0, 1, 2, 3] bcast_S1x1x1x127_S16x512x64x127_0_1_2_3 main_v6
  let main_v8 : FVec F S16x512x64x127 .f32 := addf main_v5 main_v7
  let main_v9 : FVec F S16x512x64x127 .f32 := Host.sin main_v8
  let main_v10 : FVec F S16x512x64x128 .f32 := (fun a b => concatenate S16x512x64x128 3 [⟨S16x512x64x1, a⟩, ⟨S16x512x64x127, b⟩] concatenates_S16x512x64x1_S16x512x64x127_S16x512x64x128_d3) main_v4 main_v9
  let main_v11 : FVec F S16x512x64x1 .f32 := broadcastInDim S16x512x64x1 ![0, 1, 2] bcast_S16x512x64_S16x512x64x1_0_1_2 main_arg1
  let main_v12 : FVec F S16x512x64x1 .f32 := broadcastInDim S16x512x64x1 ![0, 1, 2] bcast_S16x512x64_S16x512x64x1_0_1_2 main_arg2
  let main_v13 : FVec F S16x512x64x2 .f32 := (fun a b => concatenate S16x512x64x2 3 [⟨S16x512x64x1, a⟩, ⟨S16x512x64x1, b⟩] concatenates_S16x512x64x1_S16x512x64x1_S16x512x64x2_d3) main_v11 main_v12
  let main_v14 : FVec F S16x512x64x128 .f32 := (fun l r => Host.dotGeneral dot_S16x512x64x2_S2x128_S16x512x64x128_3_0_012_1_n_n none l r) main_v13 main_arg7
  let main_v15 : FVec F S1x1x1x128 .f32 := broadcastInDim S1x1x1x128 ![3] bcast_S128_S1x1x1x128_3 main_arg8
  let main_v16 : FVec F S16x512x64x128 .f32 := broadcastInDim S16x512x64x128 ![0, 1, 2, 3] bcast_S1x1x1x128_S16x512x64x128_0_1_2_3 main_v15
  let main_v17 : FVec F S16x512x64x128 .f32 := addf main_v14 main_v16
  let main_c : IVec S_ 32 := constantI S_ 32 1#32
  let main_v18 : IVec S16x512x64 32 := broadcastInDim S16x512x64 ![] bcast_S_S16x512x64 main_c
  let main_v19 : FVec F S16x512x64x128 .f32 := fn_take (F := F) main_arg10 main_v18
  let main_v20 : FVec F S16x512x64x1 .f32 := broadcastInDim S16x512x64x1 ![0, 1, 2] bcast_S16x512x64_S16x512x64x1_0_1_2 main_arg2
  let main_v21 : FVec F S16x512x64x128 .f32 := broadcastInDim S16x512x64x128 ![0, 1, 2, 3] bcast_S16x512x64x1_S16x512x64x128_0_1_2_3 main_v20
  let main_v22 : FVec F S16x512x64x128 .f32 := mulf main_v21 main_v10
  fn_part1 (F := F) main_arg9 main_arg10 main_arg11 main_arg12 main_v17 main_v19 main_v22
-- ==== Pre_bounded.lean ====
abbrev S16x512x64 : Shape := ⟨3, ![16, 512, 64]⟩
abbrev S1x127 : Shape := ⟨2, ![1, 127]⟩
abbrev S127 : Shape := ⟨1, ![127]⟩
abbrev S1x1 : Shape := ⟨2, ![1, 1]⟩
abbrev S1 : Shape := ⟨1, ![1]⟩
abbrev S2x128 : Shape := ⟨2, ![2, 128]⟩
abbrev S128 : Shape := ⟨1, ![128]⟩
abbrev S64x128 : Shape := ⟨2, ![64, 128]⟩
abbrev S16x512x64x1 : Shape := ⟨4, ![16, 512, 64, 1]⟩
abbrev S16x512x64x127 : Shape := ⟨4, ![16, 512, 64, 127]⟩
abbrev S1x1x1x127 : Shape := ⟨4, ![1, 1, 1, 127]⟩
abbrev S_ : Shape := ⟨0, ![]⟩

class Facts : Prop where
  bcast_S16x512x64_S16x512x64x1_0_1_2 : S16x512x64.BroadcastsInDim S16x512x64x1 (![0, 1, 2] : Fin 3 → Fin S16x512x64x1.rank)
  bcast_S127_S1x1x1x127_3 : S127.BroadcastsInDim S1x1x1x127 (![3] : Fin 1 → Fin S1x1x1x127.rank)
  bcast_S1x1x1x127_S16x512x64x127_0_1_2_3 : S1x1x1x127.BroadcastsInDim S16x512x64x127 (![0, 1, 2, 3] : Fin 4 → Fin S16x512x64x127.rank)
  bcast_S_S16x512x64x127 : S_.BroadcastsInDim S16x512x64x127 (![] : Fin 0 → Fin S16x512x64x127.rank)
  bcast_S_S16x512x64 : S_.BroadcastsInDim S16x512x64 (![] : Fin 0 → Fin S16x512x64.rank)
  dot_S16x512x64x1_S1x127_S16x512x64x127_3_0_012_1_n_n_wf : DotDims.WF S16x512x64x1 S1x127 S16x512x64x127 [3] [0] [0, 1, 2] [1] [] []

variable [Facts]

def dot_S16x512x64x1_S1x127_S16x512x64x127_3_0_012_1_n_n : DotDims S16x512x64x1 S1x127 S16x512x64x127 where
  lhsContracting := [3]
  rhsContracting := [0]
  lhsNonContracting := [0, 1, 2]
  rhsNonContracting := [1]
  lhsBatch := []
  rhsBatch := []
  wf := dot_S16x512x64x1_S1x127_S16x512x64x127_3_0_012_1_n_n_wf
def fn {F : FTy → Type} [FloatOps F] (main_arg0 : FVec F S16x512x64 .f32) (main_arg1 : FVec F S16x512x64 .f32) (main_arg2 : FVec F S16x512x64 .f32) (main_arg3 : FVec F S1x127 .f32) (main_arg4 : FVec F S127 .f32) (main_arg5 : FVec F S1x1 .f32) (main_arg6 : FVec F S1 .f32) (main_arg7 : FVec F S2x128 .f32) (main_arg8 : FVec F S128 .f32) (main_arg9 : FVec F S64x128 .f32) (main_arg10 : FVec F S2x128 .f32) : IVec S16x512x64x127 1 × IVec S16x512x64 1 :=
  let main_v0 : FVec F S16x512x64x1 .f32 := broadcastInDim S16x512x64x1 ![0, 1, 2] bcast_S16x512x64_S16x512x64x1_0_1_2 main_arg0
  let main_v1 : FVec F S16x512x64x127 .f32 := (fun l r => Host.dotGeneral dot_S16x512x64x1_S1x127_S16x512x64x127_3_0_012_1_n_n none l r) main_v0 main_arg3
  let main_v2 : FVec F S1x1x1x127 .f32 := broadcastInDim S1x1x1x127 ![3] bcast_S127_S1x1x1x127_3 main_arg4
  let main_v3 : FVec F S16x512x64x127 .f32 := broadcastInDim S16x512x64x127 ![0, 1, 2, 3] bcast_S1x1x1x127_S16x512x64x127_0_1_2_3 main_v2
  let main_v4 : FVec F S16x512x64x127 .f32 := addf main_v1 main_v3
  let main_v5 : FVec F S16x512x64x127 .f32 := Host.absf main_v4
  let main_cst : FVec F S_ .f32 := constant S_ .f32 0x447A0000#32
  let main_v6 : FVec F S16x512x64x127 .f32 := broadcastInDim S16x512x64x127 ![] bcast_S_S16x512x64x127 main_cst
  let main_v7 : IVec S16x512x64x127 1 := cmpf .ole main_v5 main_v6
  let main_v8 : FVec F S16x512x64 .f32 := Host.absf main_arg2
  let main_cst_0 : FVec F S_ .f32 := constant S_ .f32 0x3F800000#32
  let main_v9 : FVec F S16x512x64 .f32 := broadcastInDim S16x512x64 ![] bcast_S_S16x512x64 main_cst_0
  let main_v10 : IVec S16x512x64 1 := cmpf .ole main_v8 main_v9
  (main_v7, main_v10)
-- ==== Kernel.lean ====
abbrev S16x512x64 : Shape := ⟨3, ![16, 512, 64]⟩
abbrev S1x127 : Shape := ⟨2, ![1, 127]⟩
abbrev S127 : Shape := ⟨1, ![127]⟩
abbrev S1x1 : Shape := ⟨2, ![1, 1]⟩
abbrev S1 : Shape := ⟨1, ![1]⟩
abbrev S2x128 : Shape := ⟨2, ![2, 128]⟩
abbrev S128 : Shape := ⟨1, ![128]⟩
abbrev S64x128 : Shape := ⟨2, ![64, 128]⟩
abbrev S16x64x512 : Shape := ⟨3, ![16, 64, 512]⟩
abbrev S16x64x512x1 : Shape := ⟨4, ![16, 64, 512, 1]⟩
abbrev S_ : Shape := ⟨0, ![]⟩
abbrev S16x64x513x1 : Shape := ⟨4, ![16, 64, 513, 1]⟩
abbrev S1x128 : Shape := ⟨2, ![1, 128]⟩
abbrev S1024x513x128 : Shape := ⟨3, ![1024, 513, 128]⟩
abbrev S16x1x64x128 : Shape := ⟨4, ![16, 1, 64, 128]⟩
abbrev S1x16x513x1 : Shape := ⟨4, ![1, 16, 513, 1]⟩
abbrev S16x128 : Shape := ⟨2, ![16, 128]⟩
abbrev S16x513x128 : Shape := ⟨3, ![16, 513, 128]⟩
abbrev S1x1x16x128 : Shape := ⟨4, ![1, 1, 16, 128]⟩
abbrev S16x513x1 : Shape := ⟨3, ![16, 513, 1]⟩
abbrev S1x1x128 : Shape := ⟨3, ![1, 1, 128]⟩
abbrev S16x1x128 : Shape := ⟨3, ![16, 1, 128]⟩

abbrev nBuf : Space → Nat
  | .hbm => 35
  | .vmem => 17
  | .smem => 0
  | _ => 0

abbrev bufTy : (tb : Table) → Fin (tcTables nBuf tb) → BufTy
  | .hbm, ⟨0, _⟩ => ⟨S16x512x64, .f32⟩
  | .hbm, ⟨1, _⟩ => ⟨S16x512x64, .f32⟩
  | .hbm, ⟨2, _⟩ => ⟨S16x512x64, .f32⟩
  | .hbm, ⟨3, _⟩ => ⟨S1x127, .f32⟩
  | .hbm, ⟨4, _⟩ => ⟨S127, .f32⟩
  | .hbm, ⟨5, _⟩ => ⟨S1x1, .f32⟩
  | .hbm, ⟨6, _⟩ => ⟨S1, .f32⟩
  | .hbm, ⟨7, _⟩ => ⟨S2x128, .f32⟩
  | .hbm, ⟨8, _⟩ => ⟨S128, .f32⟩
  | .hbm, ⟨9, _⟩ => ⟨S64x128, .f32⟩
  | .hbm, ⟨10, _⟩ => ⟨S2x128, .f32⟩
  | .hbm, ⟨11, _⟩ => ⟨S16x64x512, .f32⟩
  | .hbm, ⟨12, _⟩ => ⟨S16x64x512x1, .f32⟩
  | .hbm, ⟨13, _⟩ => ⟨S_, .i32⟩
  | .hbm, ⟨14, _⟩ => ⟨S_, .f32⟩
  | .hbm, ⟨15, _⟩ => ⟨S16x64x513x1, .f32⟩
  | .hbm, ⟨16, _⟩ => ⟨S16x64x512, .f32⟩
  | .hbm, ⟨17, _⟩ => ⟨S16x64x512x1, .f32⟩
  | .hbm, ⟨18, _⟩ => ⟨S_, .i32⟩
  | .hbm, ⟨19, _⟩ => ⟨S_, .f32⟩
  | .hbm, ⟨20, _⟩ => ⟨S16x64x513x1, .f32⟩
  | .hbm, ⟨21, _⟩ => ⟨S16x64x512, .f32⟩
  | .hbm, ⟨22, _⟩ => ⟨S16x64x512x1, .f32⟩
  | .hbm, ⟨23, _⟩ => ⟨S_, .i32⟩
  | .hbm, ⟨24, _⟩ => ⟨S_, .f32⟩
  | .hbm, ⟨25, _⟩ => ⟨S16x64x513x1, .f32⟩
  | .hbm, ⟨26, _⟩ => ⟨S1x128, .f32⟩
  | .hbm, ⟨27, _⟩ => ⟨S128, .f32⟩
  | .hbm, ⟨28, _⟩ => ⟨S1x128, .f32⟩
  | .hbm, ⟨29, _⟩ => ⟨S1x128, .f32⟩
  | .hbm, ⟨30, _⟩ => ⟨S128, .f32⟩
  | .hbm, ⟨31, _⟩ => ⟨S128, .f32⟩
  | .hbm, ⟨32, _⟩ => ⟨S1x128, .f32⟩
  | .hbm, ⟨33, _⟩ => ⟨S1024x513x128, .f32⟩
  | .hbm, ⟨34, _⟩ => ⟨S16x1x64x128, .f32⟩
  | .local _ .vmem, ⟨0, _⟩ => ⟨S1x16x513x1, .f32⟩
  | .local _ .vmem, ⟨1, _⟩ => ⟨S1x16x513x1, .f32⟩
  | .local _ .vmem, ⟨2, _⟩ => ⟨S1x16x513x1, .f32⟩
  | .local _ .vmem, ⟨3, _⟩ => ⟨S1x16x513x1, .f32⟩
  | .local _ .vmem, ⟨4, _⟩ => ⟨S1x16x513x1, .f32⟩
  | .local _ .vmem, ⟨5, _⟩ => ⟨S1x16x513x1, .f32⟩
  | .local _ .vmem, ⟨6, _⟩ => ⟨S1x128, .f32⟩
  | .local _ .vmem, ⟨7, _⟩ => ⟨S1x128, .f32⟩
  | .local _ .vmem, ⟨8, _⟩ => ⟨S2x128, .f32⟩
  | .local _ .vmem, ⟨9, _⟩ => ⟨S1x128, .f32⟩
  | .local _ .vmem, ⟨10, _⟩ => ⟨S16x128, .f32⟩
  | .local _ .vmem, ⟨11, _⟩ => ⟨S16x128, .f32⟩
  | .local _ .vmem, ⟨12, _⟩ => ⟨S2x128, .f32⟩
  | .local _ .vmem, ⟨13, _⟩ => ⟨S16x513x128, .f32⟩
  | .local _ .vmem, ⟨14, _⟩ => ⟨S16x513x128, .f32⟩
  | .local _ .vmem, ⟨15, _⟩ => ⟨S1x1x16x128, .f32⟩
  | .local _ .vmem, ⟨16, _⟩ => ⟨S1x1x16x128, .f32⟩
  | _, _ => ⟨S16x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_call1_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_call2_v0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x16x513x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x513x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x513x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S16x513x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S16x512x64 : Shape := ⟨3, ![16, 512, 64]⟩
abbrev S1x127 : Shape := ⟨2, ![1, 127]⟩
abbrev S127 : Shape := ⟨1, ![127]⟩
abbrev S1x1 : Shape := ⟨2, ![1, 1]⟩
abbrev S1 : Shape := ⟨1, ![1]⟩
abbrev S2x128 : Shape := ⟨2, ![2, 128]⟩
abbrev S128 : Shape := ⟨1, ![128]⟩
abbrev S64x128 : Shape := ⟨2, ![64, 128]⟩
abbrev S16x512x64x1 : Shape := ⟨4, ![16, 512, 64, 1]⟩
abbrev S1x1x1x1 : Shape := ⟨4, ![1, 1, 1, 1]⟩
abbrev S16x512x64x127 : Shape := ⟨4, ![16, 512, 64, 127]⟩
abbrev S1x1x1x127 : Shape := ⟨4, ![1, 1, 1, 127]⟩
abbrev S16x512x64x128 : Shape := ⟨4, ![16, 512, 64, 128]⟩
abbrev S16x512x64x2 : Shape := ⟨4, ![16, 512, 64, 2]⟩
abbrev S1x1x1x128 : Shape := ⟨4, ![1, 1, 1, 128]⟩
abbrev S_ : Shape := ⟨0, ![]⟩
abbrev S64 : Shape := ⟨1, ![64]⟩
abbrev S1x1x64 : Shape := ⟨3, ![1, 1, 64]⟩
abbrev S16x1x64 : Shape := ⟨3, ![16, 1, 64]⟩
abbrev S16x1x64x1 : Shape := ⟨4, ![16, 1, 64, 1]⟩
abbrev S16x1x64x128 : Shape := ⟨4, ![16, 1, 64, 128]⟩
abbrev S16x513x64x128 : Shape := ⟨4, ![16, 513, 64, 128]⟩
abbrev S16x64x513x128 : Shape := ⟨4, ![16, 64, 513, 128]⟩
abbrev S1024x513x128 : Shape := ⟨3, ![1024, 513, 128]⟩

abbrev nBuf : Space → Nat
  | .hbm => 114
  | .vmem => 0
  | .smem => 0
  | _ => 0

abbrev bufTy : (tb : Table) → Fin (tcTables nBuf tb) → BufTy
  | .hbm, ⟨0, _⟩ => ⟨S16x512x64, .f32⟩
  | .hbm, ⟨1, _⟩ => ⟨S16x512x64, .f32⟩
  | .hbm, ⟨2, _⟩ => ⟨S16x512x64, .f32⟩
  | .hbm, ⟨3, _⟩ => ⟨S1x127, .f32⟩
  | .hbm, ⟨4, _⟩ => ⟨S127, .f32⟩
  | .hbm, ⟨5, _⟩ => ⟨S1x1, .f32⟩
  | .hbm, ⟨6, _⟩ => ⟨S1, .f32⟩
  | .hbm, ⟨7, _⟩ => ⟨S2x128, .f32⟩
  | .hbm, ⟨8, _⟩ => ⟨S128, .f32⟩
  | .hbm, ⟨9, _⟩ => ⟨S64x128, .f32⟩
  | .hbm, ⟨10, _⟩ => ⟨S2x128, .f32⟩
  | .hbm, ⟨11, _⟩ => ⟨S16x512x64x1, .f32⟩
  | .hbm, ⟨12, _⟩ => ⟨S16x512x64x1, .f32⟩
  | .hbm, ⟨13, _⟩ => ⟨S1x1x1x1, .f32⟩
  | .hbm, ⟨14, _⟩ => ⟨S16x512x64x1, .f32⟩
  | .hbm, ⟨15, _⟩ => ⟨S16x512x64x1, .f32⟩
  | .hbm, ⟨16, _⟩ => ⟨S16x512x64x127, .f32⟩
  | .hbm, ⟨17, _⟩ => ⟨S1x1x1x127, .f32⟩
  | .hbm, ⟨18, _⟩ => ⟨S16x512x64x127, .f32⟩
  | .hbm, ⟨19, _⟩ => ⟨S16x512x64x127, .f32⟩
  | .hbm, ⟨20, _⟩ => ⟨S16x512x64x127, .f32⟩
  | .hbm, ⟨21, _⟩ => ⟨S16x512x64x128, .f32⟩
  | .hbm, ⟨22, _⟩ => ⟨S16x512x64x1, .f32⟩
  | .hbm, ⟨23, _⟩ => ⟨S16x512x64x1, .f32⟩
  | .hbm, ⟨24, _⟩ => ⟨S16x512x64x2, .f32⟩
  | .hbm, ⟨25, _⟩ => ⟨S16x512x64x128, .f32⟩
  | .hbm, ⟨26, _⟩ => ⟨S1x1x1x128, .f32⟩
  | .hbm, ⟨27, _⟩ => ⟨S16x512x64x128, .f32⟩
  | .hbm, ⟨28, _⟩ => ⟨S16x512x64x128, .f32⟩
  | .hbm, ⟨29, _⟩ => ⟨S_, .i32⟩
  | .hbm, ⟨30, _⟩ => ⟨S16x512x64, .i32⟩
  | .hbm, ⟨31, _⟩ => ⟨S_, .i32⟩
  | .hbm, ⟨32, _⟩ => ⟨S16x512x64, .i32⟩
  | .hbm, ⟨33, _⟩ => ⟨S16x512x64, .i1⟩
  | .hbm, ⟨34, _⟩ => ⟨S_, .i32⟩
  | .hbm, ⟨35, _⟩ => ⟨S16x512x64, .i32⟩
  | .hbm, ⟨36, _⟩ => ⟨S16x512x64, .i32⟩
  | .hbm, ⟨37, _⟩ => ⟨S16x512x64, .i32⟩
  | .hbm, ⟨38, _⟩ => ⟨S16x512x64x1, .i32⟩
  | .hbm, ⟨39, _⟩ => ⟨S1, .i32⟩
  | .hbm, ⟨40, _⟩ => ⟨S_, .i32⟩
  | .hbm, ⟨41, _⟩ => ⟨S16x512x64x1, .i32⟩
  | .hbm, ⟨42, _⟩ => ⟨S16x512x64x1, .i1⟩
  | .hbm, ⟨43, _⟩ => ⟨S1x1x1x1, .i32⟩
  | .hbm, ⟨44, _⟩ => ⟨S16x512x64x1, .i32⟩
  | .hbm, ⟨45, _⟩ => ⟨S16x512x64x1, .i1⟩
  | .hbm, ⟨46, _⟩ => ⟨S16x512x64x1, .i1⟩
  | .hbm, ⟨47, _⟩ => ⟨S_, .i1⟩
  | .hbm, ⟨48, _⟩ => ⟨S16x512x64, .i1⟩
  | .hbm, ⟨49, _⟩ => ⟨S16x512x64x128, .f32⟩
  | .hbm, ⟨50, _⟩ => ⟨S16x512x64x128, .i1⟩
  | .hbm, ⟨51, _⟩ => ⟨S_, .f32⟩
  | .hbm, ⟨52, _⟩ => ⟨S16x512x64x128, .f32⟩
  | .hbm, ⟨53, _⟩ => ⟨S16x512x64x128, .f32⟩
  | .hbm, ⟨54, _⟩ => ⟨S16x512x64x1, .f32⟩
  | .hbm, ⟨55, _⟩ => ⟨S16x512x64x128, .f32⟩
  | .hbm, ⟨56, _⟩ => ⟨S16x512x64x128, .f32⟩
  | .hbm, ⟨57, _⟩ => ⟨S16x512x64x128, .f32⟩
  | .hbm, ⟨58, _⟩ => ⟨S16x512x64x128, .f32⟩
  | .hbm, ⟨59, _⟩ => ⟨S64, .i32⟩
  | .hbm, ⟨60, _⟩ => ⟨S1x1x64, .i32⟩
  | .hbm, ⟨61, _⟩ => ⟨S16x1x64, .i32⟩
  | .hbm, ⟨62, _⟩ => ⟨S_, .i32⟩
  | .hbm, ⟨63, _⟩ => ⟨S16x1x64, .i32⟩
  | .hbm, ⟨64, _⟩ => ⟨S_, .i32⟩
  | .hbm, ⟨65, _⟩ => ⟨S16x1x64, .i32⟩
  | .hbm, ⟨66, _⟩ => ⟨S16x1x64, .i1⟩
  | .hbm, ⟨67, _⟩ => ⟨S_, .i32⟩
  | .hbm, ⟨68, _⟩ => ⟨S16x1x64, .i32⟩
  | .hbm, ⟨69, _⟩ => ⟨S16x1x64, .i32⟩
  | .hbm, ⟨70, _⟩ => ⟨S16x1x64, .i32⟩
  | .hbm, ⟨71, _⟩ => ⟨S16x1x64x1, .i32⟩
  | .hbm, ⟨72, _⟩ => ⟨S1, .i32⟩
  | .hbm, ⟨73, _⟩ => ⟨S_, .i32⟩
  | .hbm, ⟨74, _⟩ => ⟨S16x1x64x1, .i32⟩
  | .hbm, ⟨75, _⟩ => ⟨S16x1x64x1, .i1⟩
  | .hbm, ⟨76, _⟩ => ⟨S1x1x1x1, .i32⟩
  | .hbm, ⟨77, _⟩ => ⟨S16x1x64x1, .i32⟩
  | .hbm, ⟨78, _⟩ => ⟨S16x1x64x1, .i1⟩
  | .hbm, ⟨79, _⟩ => ⟨S16x1x64x1, .i1⟩
  | .hbm, ⟨80, _⟩ => ⟨S_, .i1⟩
  | .hbm, ⟨81, _⟩ => ⟨S16x1x64, .i1⟩
  | .hbm, ⟨82, _⟩ => ⟨S16x1x64x128, .f32⟩
  | .hbm, ⟨83, _⟩ => ⟨S16x1x64x128, .i1⟩
  | .hbm, ⟨84, _⟩ => ⟨S_, .f32⟩
  | .hbm, ⟨85, _⟩ => ⟨S16x1x64x128, .f32⟩
  | .hbm, ⟨86, _⟩ => ⟨S16x1x64x128, .f32⟩
  | .hbm, ⟨87, _⟩ => ⟨S_, .i32⟩
  | .hbm, ⟨88, _⟩ => ⟨S16x1x64, .i32⟩
  | .hbm, ⟨89, _⟩ => ⟨S16x1x64, .i1⟩
  | .hbm, ⟨90, _⟩ => ⟨S_, .i32⟩
  | .hbm, ⟨91, _⟩ => ⟨S16x1x64, .i32⟩
  | .hbm, ⟨92, _⟩ => ⟨S16x1x64, .i32⟩
  | .hbm, ⟨93, _⟩ => ⟨S16x1x64, .i32⟩
  | .hbm, ⟨94, _⟩ => ⟨S16x1x64x1, .i32⟩
  | .hbm, ⟨95, _⟩ => ⟨S1, .i32⟩
  | .hbm, ⟨96, _⟩ => ⟨S_, .i32⟩
  | .hbm, ⟨97, _⟩ => ⟨S16x1x64x1, .i32⟩
  | .hbm, ⟨98, _⟩ => ⟨S16x1x64x1, .i1⟩
  | .hbm, ⟨99, _⟩ => ⟨S1x1x1x1, .i32⟩
  | .hbm, ⟨100, _⟩ => ⟨S16x1x64x1, .i32⟩
  | .hbm, ⟨101, _⟩ => ⟨S16x1x64x1, .i1⟩
  | .hbm, ⟨102, _⟩ => ⟨S16x1x64x1, .i1⟩
  | .hbm, ⟨103, _⟩ => ⟨S_, .i1⟩
  | .hbm, ⟨104, _⟩ => ⟨S16x1x64, .i1⟩
  | .hbm, ⟨105, _⟩ => ⟨S16x1x64x128, .f32⟩
  | .hbm, ⟨106, _⟩ => ⟨S16x1x64x128, .i1⟩
  | .hbm, ⟨107, _⟩ => ⟨S_, .f32⟩
  | .hbm, ⟨108, _⟩ => ⟨S16x1x64x128, .f32⟩
  | .hbm, ⟨109, _⟩ => ⟨S16x1x64x128, .f32⟩
  | .hbm, ⟨110, _⟩ => ⟨S16x1x64x128, .f32⟩
  | .hbm, ⟨111, _⟩ => ⟨S16x513x64x128, .f32⟩
  | .hbm, ⟨112, _⟩ => ⟨S16x64x513x128, .f32⟩
  | .hbm, ⟨113, _⟩ => ⟨S1024x513x128, .f32⟩
  | _, _ => ⟨S16x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_cst : Ref sig .tc := ⟨.hbm, 51, rfl⟩
abbrev main_call0_v15 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_c_0 : Ref sig .tc := ⟨.hbm, 62, rfl⟩
abbrev main_v28 : Ref sig .tc := ⟨.hbm, 63, rfl⟩
abbrev main_call1_c : Ref sig .tc := ⟨.hbm, 64, rfl⟩
abbrev main_call1_v0 : Ref sig .tc := ⟨.hbm, 65, rfl⟩
abbrev main_call1_v1 : Ref sig .tc := ⟨.hbm, 66, rfl⟩
abbrev main_call1_c_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_c_1 : Ref sig .tc := ⟨.hbm, 72, rfl⟩
abbrev main_call1_c_2 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_3 : Ref sig .tc := ⟨.hbm, 80, rfl⟩
abbrev main_call1_v12 : Ref sig .tc := ⟨.hbm, 81, rfl⟩
abbrev main_call1_v13 : Ref sig .tc := ⟨.hbm, 82, rfl⟩
abbrev main_call1_v14 : Ref sig .tc := ⟨.hbm, 83, rfl⟩
abbrev main_call1_cst : Ref sig .tc := ⟨.hbm, 84, rfl⟩
abbrev main_call1_v15 : Ref sig .tc := ⟨.hbm, 85, rfl⟩
abbrev main_v29 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_call2_cst : Ref sig .tc := ⟨.hbm, 107, rfl⟩
abbrev main_call2_v15 : Ref sig .tc := ⟨.hbm, 108, rfl⟩
abbrev main_v30 : Ref sig .tc := ⟨.hbm, 109, rfl⟩
abbrev main_v31 : Ref sig .tc := ⟨.hbm, 110, rfl⟩
abbrev main_v32 : Ref sig .tc := ⟨.hbm, 111, rfl⟩
abbrev main_v33 : Ref sig .tc := ⟨.hbm, 112, rfl⟩
abbrev main_v34 : Ref sig .tc := ⟨.hbm, 113, rfl⟩

abbrev nD : Nat := 1
abbrev τ : Topo := Topo.v7x

variable {F : FTy → Type} [FloatOps F]
-- ==== KernelBits.lean ====
abbrev S16x512x64 : Shape := ⟨3, ![16, 512, 64]⟩
abbrev S1x127 : Shape := ⟨2, ![1, 127]⟩
abbrev S127 : Shape := ⟨1, ![127]⟩
abbrev S1x1 : Shape := ⟨2, ![1, 1]⟩
abbrev S1 : Shape := ⟨1, ![1]⟩
abbrev S2x128 : Shape := ⟨2, ![2, 128]⟩
abbrev S128 : Shape := ⟨1, ![128]⟩
abbrev S64x128 : Shape := ⟨2, ![64, 128]⟩
abbrev S16x64x512 : Shape := ⟨3, ![16, 64, 512]⟩
abbrev S16x64x512x1 : Shape := ⟨4, ![16, 64, 512, 1]⟩
abbrev S_ : Shape := ⟨0, ![]⟩
abbrev S16x64x513x1 : Shape := ⟨4, ![16, 64, 513, 1]⟩
abbrev S1x128 : Shape := ⟨2, ![1, 128]⟩
abbrev S1024x513x128 : Shape := ⟨3, ![1024, 513, 128]⟩
abbrev S16x1x64x128 : Shape := ⟨4, ![16, 1, 64, 128]⟩
abbrev S1x16x513x1 : Shape := ⟨4, ![1, 16, 513, 1]⟩
abbrev S16x128 : Shape := ⟨2, ![16, 128]⟩
abbrev S16x513x128 : Shape := ⟨3, ![16, 513, 128]⟩
abbrev S1x1x16x128 : Shape := ⟨4, ![1, 1, 16, 128]⟩
abbrev S16x513x1 : Shape := ⟨3, ![16, 513, 1]⟩
abbrev S1x1x128 : Shape := ⟨3, ![1, 1, 128]⟩
abbrev S16x1x128 : Shape := ⟨3, ![16, 1, 128]⟩

abbrev nBuf : Space → Nat
  | .hbm => 35
  | .vmem => 17
  | .smem => 0
  | _ => 0

abbrev bufTy : (tb : Table) → Fin (tcTables nBuf tb) → BufTy
  | .hbm, ⟨0, _⟩ => ⟨S16x512x64, .f32⟩
  | .hbm, ⟨1, _⟩ => ⟨S16x512x64, .f32⟩
  | .hbm, ⟨2, _⟩ => ⟨S16x512x64, .f32⟩
  | .hbm, ⟨3, _⟩ => ⟨S1x127, .f32⟩
  | .hbm, ⟨4, _⟩ => ⟨S127, .f32⟩
  | .hbm, ⟨5, _⟩ => ⟨S1x1, .f32⟩
  | .hbm, ⟨6, _⟩ => ⟨S1, .f32⟩
  | .hbm, ⟨7, _⟩ => ⟨S2x128, .f32⟩
  | .hbm, ⟨8, _⟩ => ⟨S128, .f32⟩
  | .hbm, ⟨9, _⟩ => ⟨S64x128, .f32⟩
  | .hbm, ⟨10, _⟩ => ⟨S2x128, .f32⟩
  | .hbm, ⟨11, _⟩ => ⟨S16x64x512, .f32⟩
  | .hbm, ⟨12, _⟩ => ⟨S16x64x512x1, .f32⟩
  | .hbm, ⟨13, _⟩ => ⟨S_, .i32⟩
  | .hbm, ⟨14, _⟩ => ⟨S_, .f32⟩
  | .hbm, ⟨15, _⟩ => ⟨S16x64x513x1, .f32⟩
  | .hbm, ⟨16, _⟩ => ⟨S16x64x512, .f32⟩
  | .hbm, ⟨17, _⟩ => ⟨S16x64x512x1, .f32⟩
  | .hbm, ⟨18, _⟩ => ⟨S_, .i32⟩
  | .hbm, ⟨19, _⟩ => ⟨S_, .f32⟩
  | .hbm, ⟨20, _⟩ => ⟨S16x64x513x1, .f32⟩
  | .hbm, ⟨21, _⟩ => ⟨S16x64x512, .f32⟩
  | .hbm, ⟨22, _⟩ => ⟨S16x64x512x1, .f32⟩
  | .hbm, ⟨23, _⟩ => ⟨S_, .i32⟩
  | .hbm, ⟨24, _⟩ => ⟨S_, .f32⟩
  | .hbm, ⟨25, _⟩ => ⟨S16x64x513x1, .f32⟩
  | .hbm, ⟨26, _⟩ => ⟨S1x128, .f32⟩
  | .hbm, ⟨27, _⟩ => ⟨S128, .f32⟩
  | .hbm, ⟨28, _⟩ => ⟨S1x128, .f32⟩
  | .hbm, ⟨29, _⟩ => ⟨S1x128, .f32⟩
  | .hbm, ⟨30, _⟩ => ⟨S128, .f32⟩
  | .hbm, ⟨31, _⟩ => ⟨S128, .f32⟩
  | .hbm, ⟨32, _⟩ => ⟨S1x128, .f32⟩
  | .hbm, ⟨33, _⟩ => ⟨S1024x513x128, .f32⟩
  | .hbm, ⟨34, _⟩ => ⟨S16x1x64x128, .f32⟩
  | .local _ .vmem, ⟨0, _⟩ => ⟨S1x16x513x1, .f32⟩
  | .local _ .vmem, ⟨1, _⟩ => ⟨S1x16x513x1, .f32⟩
  | .local _ .vmem, ⟨2, _⟩ => ⟨S1x16x513x1, .f32⟩
  | .local _ .vmem, ⟨3, _⟩ => ⟨S1x16x513x1, .f32⟩
  | .local _ .vmem, ⟨4, _⟩ => ⟨S1x16x513x1, .f32⟩
  | .local _ .vmem, ⟨5, _⟩ => ⟨S1x16x513x1, .f32⟩
  | .local _ .vmem, ⟨6, _⟩ => ⟨S1x128, .f32⟩
  | .local _ .vmem, ⟨7, _⟩ => ⟨S1x128, .f32⟩
  | .local _ .vmem, ⟨8, _⟩ => ⟨S2x128, .f32⟩
  | .local _ .vmem, ⟨9, _⟩ => ⟨S1x128, .f32⟩
  | .local _ .vmem, ⟨10, _⟩ => ⟨S16x128, .f32⟩
  | .local _ .vmem, ⟨11, _⟩ => ⟨S16x128, .f32⟩
  | .local _ .vmem, ⟨12, _⟩ => ⟨S2x128, .f32⟩
  | .local _ .vmem, ⟨13, _⟩ => ⟨S16x513x128, .f32⟩
  | .local _ .vmem, ⟨14, _⟩ => ⟨S16x513x128, .f32⟩
  | .local _ .vmem, ⟨15, _⟩ => ⟨S1x1x16x128, .f32⟩
  | .local _ .vmem, ⟨16, _⟩ => ⟨S1x1x16x128, .f32⟩
  | _, _ => ⟨S16x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_call1_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_call2_v0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [BitOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x16x513x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x513x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x513x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S16x513x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelPoly.lean ====
abbrev S16x512x64 : Shape := ⟨3, ![16, 512, 64]⟩
abbrev S1x127 : Shape := ⟨2, ![1, 127]⟩
abbrev S127 : Shape := ⟨1, ![127]⟩
abbrev S1x1 : Shape := ⟨2, ![1, 1]⟩
abbrev S1 : Shape := ⟨1, ![1]⟩
abbrev S2x128 : Shape := ⟨2, ![2, 128]⟩
abbrev S128 : Shape := ⟨1, ![128]⟩
abbrev S64x128 : Shape := ⟨2, ![64, 128]⟩
abbrev S16x64x512 : Shape := ⟨3, ![16, 64, 512]⟩
abbrev S16x64x512x1 : Shape := ⟨4, ![16, 64, 512, 1]⟩
abbrev S_ : Shape := ⟨0, ![]⟩
abbrev S16x64x513x1 : Shape := ⟨4, ![16, 64, 513, 1]⟩
abbrev S1x128 : Shape := ⟨2, ![1, 128]⟩
abbrev S1024x513x128 : Shape := ⟨3, ![1024, 513, 128]⟩
abbrev S16x1x64x128 : Shape := ⟨4, ![16, 1, 64, 128]⟩
abbrev S1x16x513x1 : Shape := ⟨4, ![1, 16, 513, 1]⟩
abbrev S16x128 : Shape := ⟨2, ![16, 128]⟩
abbrev S16x513x128 : Shape := ⟨3, ![16, 513, 128]⟩
abbrev S1x1x16x128 : Shape := ⟨4, ![1, 1, 16, 128]⟩
abbrev S16x513x1 : Shape := ⟨3, ![16, 513, 1]⟩
abbrev S1x1x128 : Shape := ⟨3, ![1, 1, 128]⟩
abbrev S16x1x128 : Shape := ⟨3, ![16, 1, 128]⟩

abbrev nBuf : Space → Nat
  | .hbm => 35
  | .vmem => 17
  | .smem => 0
  | _ => 0

abbrev bufTy : (tb : Table) → Fin (tcTables nBuf tb) → BufTy
  | .hbm, ⟨0, _⟩ => ⟨S16x512x64, .f32⟩
  | .hbm, ⟨1, _⟩ => ⟨S16x512x64, .f32⟩
  | .hbm, ⟨2, _⟩ => ⟨S16x512x64, .f32⟩
  | .hbm, ⟨3, _⟩ => ⟨S1x127, .f32⟩
  | .hbm, ⟨4, _⟩ => ⟨S127, .f32⟩
  | .hbm, ⟨5, _⟩ => ⟨S1x1, .f32⟩
  | .hbm, ⟨6, _⟩ => ⟨S1, .f32⟩
  | .hbm, ⟨7, _⟩ => ⟨S2x128, .f32⟩
  | .hbm, ⟨8, _⟩ => ⟨S128, .f32⟩
  | .hbm, ⟨9, _⟩ => ⟨S64x128, .f32⟩
  | .hbm, ⟨10, _⟩ => ⟨S2x128, .f32⟩
  | .hbm, ⟨11, _⟩ => ⟨S16x64x512, .f32⟩
  | .hbm, ⟨12, _⟩ => ⟨S16x64x512x1, .f32⟩
  | .hbm, ⟨13, _⟩ => ⟨S_, .i32⟩
  | .hbm, ⟨14, _⟩ => ⟨S_, .f32⟩
  | .hbm, ⟨15, _⟩ => ⟨S16x64x513x1, .f32⟩
  | .hbm, ⟨16, _⟩ => ⟨S16x64x512, .f32⟩
  | .hbm, ⟨17, _⟩ => ⟨S16x64x512x1, .f32⟩
  | .hbm, ⟨18, _⟩ => ⟨S_, .i32⟩
  | .hbm, ⟨19, _⟩ => ⟨S_, .f32⟩
  | .hbm, ⟨20, _⟩ => ⟨S16x64x513x1, .f32⟩
  | .hbm, ⟨21, _⟩ => ⟨S16x64x512, .f32⟩
  | .hbm, ⟨22, _⟩ => ⟨S16x64x512x1, .f32⟩
  | .hbm, ⟨23, _⟩ => ⟨S_, .i32⟩
  | .hbm, ⟨24, _⟩ => ⟨S_, .f32⟩
  | .hbm, ⟨25, _⟩ => ⟨S16x64x513x1, .f32⟩
  | .hbm, ⟨26, _⟩ => ⟨S1x128, .f32⟩
  | .hbm, ⟨27, _⟩ => ⟨S128, .f32⟩
  | .hbm, ⟨28, _⟩ => ⟨S1x128, .f32⟩
  | .hbm, ⟨29, _⟩ => ⟨S1x128, .f32⟩
  | .hbm, ⟨30, _⟩ => ⟨S128, .f32⟩
  | .hbm, ⟨31, _⟩ => ⟨S128, .f32⟩
  | .hbm, ⟨32, _⟩ => ⟨S1x128, .f32⟩
  | .hbm, ⟨33, _⟩ => ⟨S1024x513x128, .f32⟩
  | .hbm, ⟨34, _⟩ => ⟨S16x1x64x128, .f32⟩
  | .local _ .vmem, ⟨0, _⟩ => ⟨S1x16x513x1, .f32⟩
  | .local _ .vmem, ⟨1, _⟩ => ⟨S1x16x513x1, .f32⟩
  | .local _ .vmem, ⟨2, _⟩ => ⟨S1x16x513x1, .f32⟩
  | .local _ .vmem, ⟨3, _⟩ => ⟨S1x16x513x1, .f32⟩
  | .local _ .vmem, ⟨4, _⟩ => ⟨S1x16x513x1, .f32⟩
  | .local _ .vmem, ⟨5, _⟩ => ⟨S1x16x513x1, .f32⟩
  | .local _ .vmem, ⟨6, _⟩ => ⟨S1x128, .f32⟩
  | .local _ .vmem, ⟨7, _⟩ => ⟨S1x128, .f32⟩
  | .local _ .vmem, ⟨8, _⟩ => ⟨S2x128, .f32⟩
  | .local _ .vmem, ⟨9, _⟩ => ⟨S1x128, .f32⟩
  | .local _ .vmem, ⟨10, _⟩ => ⟨S16x128, .f32⟩
  | .local _ .vmem, ⟨11, _⟩ => ⟨S16x128, .f32⟩
  | .local _ .vmem, ⟨12, _⟩ => ⟨S2x128, .f32⟩
  | .local _ .vmem, ⟨13, _⟩ => ⟨S16x513x128, .f32⟩
  | .local _ .vmem, ⟨14, _⟩ => ⟨S16x513x128, .f32⟩
  | .local _ .vmem, ⟨15, _⟩ => ⟨S1x1x16x128, .f32⟩
  | .local _ .vmem, ⟨16, _⟩ => ⟨S1x1x16x128, .f32⟩
  | _, _ => ⟨S16x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_call1_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_call2_v0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x16x513x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x513x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x513x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S16x513x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Proof.Model.lean ====
/-
  The embedding as plain mathematics, over the extended reals: what both results are, index by index, for a sine `sn`
  left open (the kernel is read once with the sine itself and once with its polynomial).
-/
module

public import Idealize.ShloMosaic.Lib.Pointwise.Index
public import Idealize.ShloMosaic.PureOps.Ideal

@[expose] public section

noncomputable section

namespace Cert.Embed

open Idealize.ShloMosaic

abbrev Seq : Shape := ⟨3, ![16, 512, 64]⟩
abbrev Row : Shape := ⟨2, ![1, 128]⟩
abbrev Row127 : Shape := ⟨2, ![1, 127]⟩
abbrev Row1 : Shape := ⟨2, ![1, 1]⟩
abbrev Vec128 : Shape := ⟨1, ![128]⟩
abbrev Vec127 : Shape := ⟨1, ![127]⟩
abbrev Vec1 : Shape := ⟨1, ![1]⟩
abbrev Pair : Shape := ⟨2, ![2, 128]⟩
abbrev Table : Shape := ⟨2, ![64, 128]⟩
abbrev Out : Shape := ⟨3, ![1024, 513, 128]⟩
abbrev Prompt : Shape := ⟨4, ![16, 1, 64, 128]⟩
/-- One pipelined block of a padded input sequence. -/
abbrev SeqBlk : Shape := ⟨4, ![1, 16, 513, 1]⟩
/-- One pipelined block of the table of variables. -/
abbrev TableBlk : Shape := ⟨2, ![16, 128]⟩

/-- The eleven arguments: the times, the values, the mask, the periodic layer's weight and bias, the linear layer's weight
    and bias, the value layer's weight and bias, the table of variables and the table of indicators. -/
structure Args where
  tt : Seq.Idx → EReal
  x : Seq.Idx → EReal
  xm : Seq.Idx → EReal
  wper : Row127.Idx → EReal
  bper : Vec127.Idx → EReal
  wlin : Row1.Idx → EReal
  blin : Vec1.Idx → EReal
  wval : Pair.Idx → EReal
  bval : Vec128.Idx → EReal
  var : Table.Idx → EReal
  ind : Pair.Idx → EReal

/-- One embedded element of a row after the first, from the scalars it depends on: `tt`, `x` and `xm` at the row; the time
    layer's weight and bias, the two value weights and the value bias at lane `d`. Lane 0 keeps the time layer's value,
    the others take its sine. -/
def cell (sn : EReal → EReal) (d : Fin 128) (tt x xm w b w0 w1 bv : EReal) : EReal :=
  xm * (if d.val = 0 then tt * w + b else sn (tt * w + b)) + (x * w0 + xm * w1 + bv)

variable (A : Args)

/-- The time layer's weight at lane `d`: the linear layer's at lane 0, the periodic layer's after it. -/
def wt (d : Fin 128) : EReal :=
  if h : d.val = 0 then A.wlin (ix2 0 0) else A.wper (ix2 0 ⟨d.val - 1, by omega⟩)

/-- The time layer's bias at lane `d`, likewise. -/
def bt (d : Fin 128) : EReal :=
  if h : d.val = 0 then A.blin (ix1 0) else A.bper (ix1 ⟨d.val - 1, by omega⟩)

/-- The time layer's value, before any sine. -/
def pre (b : Fin 16) (t : Fin 512) (j : Fin 64) (d : Fin 128) : EReal :=
  A.tt (ix3 b t j) * wt A d + bt A d

/-- Variable `j`'s prompt: its row of the table plus the first indicator. -/
def prompt (j : Fin 64) (d : Fin 128) : EReal := A.var (ix2 j d) + A.ind (ix2 0 d)

/-- The embedding of time step `t` of variable `j` in batch `b`. -/
def emb (sn : EReal → EReal) (b : Fin 16) (t : Fin 512) (j : Fin 64) (d : Fin 128) : EReal :=
  cell sn d (A.tt (ix3 b t j)) (A.x (ix3 b t j)) (A.xm (ix3 b t j)) (wt A d) (bt A d) (A.wval (ix2 0 d)) (A.wval (ix2 1 d))
    (A.bval (ix1 d) + A.ind (ix2 1 d))

/-- Row `r` of sequence `(b, j)` of the first result: the prompt first, the embedded steps after it. -/
def outAt (sn : EReal → EReal) (b : Fin 16) (j : Fin 64) (r : Fin 513) (d : Fin 128) : EReal :=
  if h : r.val = 0 then prompt A j d else emb A sn b ⟨r.val - 1, by omega⟩ j d

/-- The first result: sequence `64 b + j` is variable `j` of batch `b`. -/
def out (sn : EReal → EReal) : Out.Idx → EReal := fun i =>
  outAt A sn ⟨(i 0).val / 64, by have := (i 0).isLt; simp only [Matrix.cons_val_zero] at this; omega⟩
    ⟨(i 0).val % 64, by omega⟩ (i 1) (i 2)

/-- The second result: the prompts, the same in every batch. -/
def prompts : Prompt.Idx → EReal := fun i => prompt A (i 2) (i 3)

end Cert.Embed

end
-- ==== Proof.Block.lean ====
/-
  One block's worth of the kernel, in terms both printed kernels share: two stores into the output's block, a whole one and
  then its first row, leave the second's value in row 0 and the first's everywhere else; loads of one row of a two-row table.
-/
module

public import proofs.«01_k».proof.Proof.Model
public import Idealize.ShloMosaic.Lib.Pipeline.Value
public import Idealize.ShloMosaic.Lib.Pointwise

@[expose] public section

noncomputable section

namespace Cert.Embed

open Idealize.ShloMosaic

/-- A block of the first result, its first rows, and a block of the second result. -/
abbrev OutBlk : Shape := ⟨3, ![16, 513, 128]⟩
abbrev OutRow : Shape := ⟨3, ![16, 1, 128]⟩
abbrev PromptBlk : Shape := ⟨4, ![1, 1, 16, 128]⟩

/-- A whole store and then a store of the first row: row 0 is the later store's, every other row the earlier one's. -/
theorem canon_first_row (w : OutRow.Idx → Elt Ideal .f32) (v : OutBlk.Idx → Elt Ideal .f32)
    (h1 : ∀ a, (![0, 0, 0] : Fin 3 → Nat) a + OutRow.size a ≤ OutBlk.size a)
    (h2 : ∀ a, (![0, 0, 0] : Fin 3 → Nat) a + OutBlk.size a ≤ OutBlk.size a) (p : Fin 16) (r : Fin 513) (d : Fin 128) :
    View.canon (Val := Elt Ideal) (e := .f32) (s := OutBlk) [⟨Rect.unit (s := OutBlk) ![0, 0, 0] OutRow.size h1, w⟩, ⟨Rect.unit (s := OutBlk) ![0, 0, 0] OutBlk.size h2, v⟩] (ix3 p r d)
      = if r.val = 0 then w (ix3 p 0 d) else v (ix3 p r d) := by
  have hz : (![0, 0, 0] : Fin 3 → Nat) = fun _ => 0 := funext fun a => by fin_cases a <;> rfl
  split
  · rename_i hr
    have e : (ix3 p r d : OutBlk.Idx) = (Rect.unit (s := OutBlk) ![0, 0, 0] OutRow.size h1).emb (ix3 p 0 d) := by
      funext a
      refine Fin.ext ?_
      rw [Rect.emb_apply]
      match a with
      | ⟨0, _⟩ => simp [ix3, Rect.unit]
      | ⟨1, _⟩ => simp [ix3, Rect.unit, hr]
      | ⟨2, _⟩ => simp [ix3, Rect.unit]
    rw [e, View.canon_cons_emb]
  · rename_i hr
    rw [View.canon_cons_of_not_mem, View.canon_unit_zero hz]
    rw [Rect.mem_set_unit]
    intro h
    have := (h 1).2
    simp [ix3] at this
    omega

/-- The kernel's choice by lane number: the first value at lane 0, the second at the others. -/
theorem select_lane (d : Fin 128) (a b : EReal) :
    Scalar.select (IntOp.cmpi .eq (BitVec.ofNat 32 d.val) 0#32) a b = if d.val = 0 then a else b := by
  have key : ∀ d : Fin 128, (BitVec.ofNat 32 d.val = 0#32) ↔ d.val = 0 := by decide
  by_cases h : d.val = 0
  · rw [if_pos h, (key d).mpr h]; rfl
  · have h' : ¬BitVec.ofNat 32 d.val = 0#32 := fun e => h ((key d).mp e)
    rw [if_neg h]
    simp [IntOp.cmpi, Scalar.select, beq_eq_false_iff_ne.mpr h']

end Cert.Embed

end
-- ==== Proof.KernelBlock.lean ====
/-
  What one grid point of the kernel with the library sine leaves in its two output blocks, element by element.
-/
module

public import proofs.«01_k».proof.Proof.Block
public import proofs.«01_k».proof.Proof.Gen.KernelIdeal.Value
public import Idealize.ShloMosaic.Lib.Tactic

@[expose] public section

noncomputable section

open Idealize.ShloMosaic Idealize.ShloMosaic.TcCoe Idealize.SL.Sem

namespace Cert.Embed.Sine

open Cert.KernelIdeal Cert.KernelIdeal.Gen

variable (c : Dev nD) (i : grid0.Coords)
  (a2 : Memref sig .tc .vmem S1x16x513x1 .f32) (h2 : a2.IsWhole) (a3 : Memref sig .tc .vmem S1x16x513x1 .f32) (h3 : a3.IsWhole)
  (a4 : Memref sig .tc .vmem S1x16x513x1 .f32) (h4 : a4.IsWhole) (a5 : Memref sig .tc .vmem S1x128 .f32) (h5 : a5.IsWhole)
  (a6 : Memref sig .tc .vmem S1x128 .f32) (h6 : a6.IsWhole) (a7 : Memref sig .tc .vmem S2x128 .f32) (h7 : a7.IsWhole)
  (a8 : Memref sig .tc .vmem S1x128 .f32) (h8 : a8.IsWhole) (a9 : Memref sig .tc .vmem S16x128 .f32) (h9 : a9.IsWhole)
  (a10 : Memref sig .tc .vmem S2x128 .f32) (h10 : a10.IsWhole) (a11 : Memref sig .tc .vmem S16x513x128 .f32) (h11 : a11.IsWhole)
  (a12 : Memref sig .tc .vmem S1x1x16x128 .f32) (h12 : a12.IsWhole)
  (x0 x1 x2 : Vec Ideal S1x16x513x1 .f32) (x3 x4 : Vec Ideal S1x128 .f32) (x5 : Vec Ideal S2x128 .f32) (x6 : Vec Ideal S1x128 .f32)
  (x7 : Vec Ideal S16x128 .f32) (x8 : Vec Ideal S2x128 .f32)

/-- The first output's block: row 0 is the prompt, every other row the embedding. -/
theorem out9_apply (p : Fin 16) (r : Fin 513) (d : Fin 128) :
    out0_A_9 (F := Ideal) c i a2 h2 a3 h3 a4 h4 a5 h5 a6 h6 a7 h7 a8 h8 a9 h9 a10 h10 a11 h11 a12 h12 x0 x1 x2 x3 x4 x5 x6 x7 x8 (ix3 p r d)
      = if r.val = 0 then x7 (ix2 p d) + x8 (ix2 0 d)
        else cell Ideal.sin d (x0 (ix4 0 p r 0)) (x1 (ix4 0 p r 0)) (x2 (ix4 0 p r 0)) (x3 (ix2 0 d)) (x4 (ix2 0 d)) (x5 (ix2 0 d)) (x5 (ix2 1 d))
          (x6 (ix2 0 d)) := by
  have hz2 : (![0, 0] : Fin 2 → Nat) = fun _ => 0 := funext fun a => by fin_cases a <;> rfl
  have hz4 : (![0, 0, 0, 0] : Fin 4 → Nat) = fun _ => 0 := funext fun a => by fin_cases a <;> rfl
  unfold out0_A_9
  rw [View.read_writes_eq_canon _ _ _ (cover0_A_9 c i a2 h2 a3 h3 a4 h4 a5 h5 a6 h6 a7 h7 a8 h8 a9 h9 a10 h10 a11 h11 a12 h12 x0 x1 x2 x3 x4 x5 x6 x7 x8)]
  unfold kernelRun0_A
  dsimp only
  sl_unfold_words
  rw [canon_first_row]
  simp only [View.readAt_eq_ld, h2.read_unread, h3.read_unread, h4.read_unread, h5.read_unread, h6.read_unread, h7.read_unread,
    h8.read_unread, h9.read_unread, h10.read_unread, View.ld_unit_zero (S := S1x128) hz2, View.ld_unit_zero (S := S16x128) hz2,
    View.ld_unit_zero (S := S1x16x513x1) hz4]
  unfold_payloads
  split
  · pointwise
  · pointwise
    rw [select_lane]
    rfl

/-- The second output's block: the prompts of the block's variables. -/
theorem out10_apply (p : Fin 16) (d : Fin 128) :
    out0_A_10 (F := Ideal) c i a2 h2 a3 h3 a4 h4 a5 h5 a6 h6 a7 h7 a8 h8 a9 h9 a10 h10 a11 h11 a12 h12 x0 x1 x2 x3 x4 x5 x6 x7 x8 (ix4 0 0 p d)
      = x7 (ix2 p d) + x8 (ix2 0 d) := by
  have hz2 : (![0, 0] : Fin 2 → Nat) = fun _ => 0 := funext fun a => by fin_cases a <;> rfl
  have hz4 : (![0, 0, 0, 0] : Fin 4 → Nat) = fun _ => 0 := funext fun a => by fin_cases a <;> rfl
  unfold out0_A_10
  rw [View.read_writes_eq_canon _ _ _ (cover0_A_10 c i a2 h2 a3 h3 a4 h4 a5 h5 a6 h6 a7 h7 a8 h8 a9 h9 a10 h10 a11 h11 a12 h12 x0 x1 x2 x3 x4 x5 x6 x7 x8)]
  unfold kernelRun0_A
  dsimp only
  sl_unfold_words
  rw [View.canon_unit_zero hz4]
  simp only [View.readAt_eq_ld, h9.read_unread, h10.read_unread, View.ld_unit_zero (S := S16x128) hz2]
  unfold_payloads
  pointwise

end Cert.Embed.Sine

end
-- ==== Proof.Host.lean ====
/-
  The host's arrangement of the arguments before the launch, read at an index: a sequence transposed, given a last axis of
  one and padded with one row in front; the linear and the periodic layer's weights side by side.
-/
module

public import proofs.«01_k».proof.Proof.Model
public import Idealize.ShloMosaic.Lib.Pipeline.Value
public import Idealize.ShloMosaic.Lib.Pointwise
public import Idealize.ShloMosaic.Lib.KernelVsHost

@[expose] public section

noncomputable section

namespace Cert.Embed

open Idealize.ShloMosaic

/-- A transposed sequence array, the same with a last axis of one, and the padded array. -/
abbrev SeqT : Shape := ⟨3, ![16, 64, 512]⟩
abbrev SeqT1 : Shape := ⟨4, ![16, 64, 512, 1]⟩
abbrev SeqPad : Shape := ⟨4, ![16, 64, 513, 1]⟩

/-- Row `r` of a padded sequence, after the row put in front, is step `r - 1` of the sequence. -/
theorem padded_apply (x : Seq.Idx → EReal) {u : Shape} (v : u.Idx → EReal) (h1 : Seq.Transposes [0, 2, 1] SeqT)
    (h2 : SeqT.BroadcastsInDim SeqT1 ![0, 1, 2]) (h3 : SeqT1.Pads ![0, 0, 1, 0] ![0, 0, 0, 0] ![0, 0, 0, 0] SeqPad)
    (h4 : 0 < u.numel) (b : Fin 16) (j : Fin 64) (r : Fin 513) (hr : r.val ≠ 0) :
    pad SeqPad ![0, 0, 1, 0] ![0, 0, 0, 0] ![0, 0, 0, 0] (broadcastInDim SeqT1 ![0, 1, 2] h2 (transpose SeqT [0, 2, 1] x h1)) v h3 h4
      (ix4 b j r 0) = x (ix3 b ⟨r.val - 1, by omega⟩ j) := by
  have hr' := r.isLt
  rw [pad_apply_of_inside _ _ _ _ _ h3 h4 (ix4 b j r 0) (ix4 b j ⟨r.val - 1, by omega⟩ 0) (by
    intro a
    match a with
    | ⟨0, _⟩ => simp [ix4]
    | ⟨1, _⟩ => simp [ix4]
    | ⟨2, _⟩ => simp [ix4]; omega
    | ⟨3, _⟩ => simp [ix4])]
  pointwise

/-- Two rows of weights side by side, read at lane `d`. -/
theorem joined_row_apply (a : Row1.Idx → EReal) (b : Row127.Idx → EReal) (h : Shape.Concatenates [Row1, Row127] Row 1) (d : Fin 128) :
    concatenate Row 1 [⟨Row1, a⟩, ⟨Row127, b⟩] h (ix2 0 d)
      = if hd : d.val = 0 then a (ix2 0 0) else b (ix2 0 ⟨d.val - 1, by omega⟩) := by
  split
  · exact concatenate_pair_apply_left 1 a b h _ rfl _ (by
      intro c; match c with | ⟨0, _⟩ => rfl | ⟨1, _⟩ => simp [ix2, *])
  · exact concatenate_pair_apply_right 1 a b h _ rfl rfl _ (by
      intro c hc; match c with | ⟨0, _⟩ => rfl | ⟨1, _⟩ => exact absurd rfl hc) (by
      simp [ix2]; omega)

/-- Two biases end to end, read at lane `d`. -/
theorem joined_vec_apply (a : Vec1.Idx → EReal) (b : Vec127.Idx → EReal) (h : Shape.Concatenates [Vec1, Vec127] Vec128 0) (d : Fin 128) :
    concatenate Vec128 0 [⟨Vec1, a⟩, ⟨Vec127, b⟩] h (ix1 d)
      = if hd : d.val = 0 then a (ix1 0) else b (ix1 ⟨d.val - 1, by omega⟩) := by
  split
  · exact concatenate_pair_apply_left 0 a b h _ rfl _ (by
      intro c; match c with | ⟨0, _⟩ => simp [ix1, *])
  · exact concatenate_pair_apply_right 0 a b h _ rfl rfl _ (by
      intro c hc; match c with | ⟨0, _⟩ => exact absurd rfl hc) (by
      simp [ix1]; omega)

/-- A vector given a leading axis of one is the vector. -/
theorem row_of_vec_apply (x : Vec128.Idx → EReal) (h : Vec128.BroadcastsInDim Row ![1]) (d : Fin 128) :
    broadcastInDim Row ![1] h x (ix2 0 d) = x (ix1 d) := by pointwise

/-- The value bias plus the second indicator. -/
theorem value_bias_apply (x : Vec128.Idx → EReal) (y : Pair.Idx → EReal) (h1 : Pair.Slices ![1, 0] Row) (h2 : Row.ShapeCasts Vec128)
    (h3 : Vec128.BroadcastsInDim Row ![1]) (d : Fin 128) :
    broadcastInDim Row ![1] h3 (addf (F := Ideal) (φ := .f32) x (shapeCast Vec128 (extractStridedSlice Row ![1, 0] y h1) h2)) (ix2 0 d)
      = x (ix1 d) + y (ix2 1 d) := by
  pointwise

end Cert.Embed

end
-- ==== Proof.KernelHost.lean ====
/-
  What the kernel with the library sine finds in each input array when it is entered, in terms of the arguments.
-/
module

public import proofs.«01_k».proof.Proof.Host
public import proofs.«01_k».proof.Proof.Gen.KernelIdeal.Value
public import Idealize.ShloMosaic.Lib.StableHlo.Run
public import Idealize.ShloMosaic.Lib.Tactic

@[expose] public section

noncomputable section

open Idealize.ShloMosaic Idealize.ShloMosaic.TcCoe Idealize.SL.Sem

namespace Cert.Embed.Sine

open Cert.KernelIdeal Cert.KernelIdeal.Gen

variable (m : (ℓ : Loc nD τ sig) → Buf (Elt Ideal) ℓ) (c : Dev nD)

/-- Device `c`'s arguments as launched. -/
def args : Args where
  tt := m ((c : Thread nD τ).loc main_arg0)
  x := m ((c : Thread nD τ).loc main_arg1)
  xm := m ((c : Thread nD τ).loc main_arg2)
  wper := m ((c : Thread nD τ).loc main_arg3)
  bper := m ((c : Thread nD τ).loc main_arg4)
  wlin := m ((c : Thread nD τ).loc main_arg5)
  blin := m ((c : Thread nD τ).loc main_arg6)
  wval := m ((c : Thread nD τ).loc main_arg7)
  bval := m ((c : Thread nD τ).loc main_arg8)
  var := m ((c : Thread nD τ).loc main_arg9)
  ind := m ((c : Thread nD τ).loc main_arg10)

/-- The padded times. -/
theorem times (b : Fin 16) (j : Fin 64) (r : Fin 513) (hr : r.val ≠ 0) :
    V m c main_v2 (ix4 b j r 0) = (args m c).tt (ix3 b ⟨r.val - 1, by omega⟩ j) := by
  unfold V hostOps0 hostOps0_1 hostOps0_2 hostOps0_3 hostOps0_4 hostOps0_5 hostOps0_6
  simp only [List.flatten_cons, List.flatten_nil, List.append_nil, List.cons_append, List.nil_append]
  after_results
  exact padded_apply _ _ transposes_S16x512x64_S16x64x512_0_2_1 bcast_S16x64x512_S16x64x512x1_0_1_2
    pads_S16x64x512x1_S16x64x513x1_000_000_100_000 h_S_ b j r hr

/-- The padded values. -/
theorem values (b : Fin 16) (j : Fin 64) (r : Fin 513) (hr : r.val ≠ 0) :
    V m c main_v5 (ix4 b j r 0) = (args m c).x (ix3 b ⟨r.val - 1, by omega⟩ j) := by
  unfold V hostOps0 hostOps0_1 hostOps0_2 hostOps0_3 hostOps0_4 hostOps0_5 hostOps0_6
  simp only [List.flatten_cons, List.flatten_nil, List.append_nil, List.cons_append, List.nil_append]
  after_results
  exact padded_apply _ _ transposes_S16x512x64_S16x64x512_0_2_1 bcast_S16x64x512_S16x64x512x1_0_1_2
    pads_S16x64x512x1_S16x64x513x1_000_000_100_000 h_S_ b j r hr

/-- The padded mask. -/
theorem mask (b : Fin 16) (j : Fin 64) (r : Fin 513) (hr : r.val ≠ 0) :
    V m c main_v8 (ix4 b j r 0) = (args m c).xm (ix3 b ⟨r.val - 1, by omega⟩ j) := by
  unfold V hostOps0 hostOps0_1 hostOps0_2 hostOps0_3 hostOps0_4 hostOps0_5 hostOps0_6
  simp only [List.flatten_cons, List.flatten_nil, List.append_nil, List.cons_append, List.nil_append]
  after_results
  exact padded_apply _ _ transposes_S16x512x64_S16x64x512_0_2_1 bcast_S16x64x512_S16x64x512x1_0_1_2
    pads_S16x64x512x1_S16x64x513x1_000_000_100_000 h_S_ b j r hr

/-- The time layer's weights, side by side. -/
theorem weights (d : Fin 128) : V m c main_v9 (ix2 0 d) = wt (args m c) d := by
  unfold V hostOps0 hostOps0_1 hostOps0_2 hostOps0_3 hostOps0_4 hostOps0_5 hostOps0_6
  simp only [List.flatten_cons, List.flatten_nil, List.append_nil, List.cons_append, List.nil_append]
  after_results
  exact joined_row_apply _ _ concatenates_S1x1_S1x127_S1x128_d1 d

/-- The time layer's biases, end to end. -/
theorem biases (d : Fin 128) : V m c main_v11 (ix2 0 d) = bt (args m c) d := by
  unfold V hostOps0 hostOps0_1 hostOps0_2 hostOps0_3 hostOps0_4 hostOps0_5 hostOps0_6
  simp only [List.flatten_cons, List.flatten_nil, List.append_nil, List.cons_append, List.nil_append]
  after_results
  exact (row_of_vec_apply _ bcast_S128_S1x128_1 d).trans (joined_vec_apply _ _ concatenates_S1_S127_S128_d0 d)

/-- The value bias with the second indicator added. -/
theorem value_bias (d : Fin 128) : V m c main_v15 (ix2 0 d) = (args m c).bval (ix1 d) + (args m c).ind (ix2 1 d) := by
  unfold V hostOps0 hostOps0_1 hostOps0_2 hostOps0_3 hostOps0_4 hostOps0_5 hostOps0_6
  simp only [List.flatten_cons, List.flatten_nil, List.append_nil, List.cons_append, List.nil_append]
  after_results
  exact value_bias_apply _ _ slices_S2x128_S1x128_1_0 shapeCasts_S1x128_S128 bcast_S128_S1x128_1 d

end Cert.Embed.Sine

end
-- ==== Proof.KernelValue.lean ====
/-
  The two result arrays of the kernel with the library sine after its run, as functions of the arguments.
-/
module

public import proofs.«01_k».proof.Proof.KernelBlock
public import proofs.«01_k».proof.Proof.KernelHost

@[expose] public section

noncomputable section

open Idealize.ShloMosaic Idealize.ShloMosaic.TcCoe Idealize.SL.Sem
open Idealize.ShloMosaic.Pipeline (Dat Window)

namespace Cert.Embed.Sine

open Cert.KernelIdeal Cert.KernelIdeal.Gen

variable (m : (ℓ : Loc nD τ sig) → Buf (Elt Ideal) ℓ) (c : Dev nD)

/-- Where each window's block sits at point `t`: batch `t / 4`, variables from `16 (t % 4)` on. -/
theorem index_seq : ∀ t : Fin grid0.N,
    (win0_0.index t 0 = t.val / 4 ∧ win0_0.index t 1 = t.val % 4 ∧ win0_0.index t 2 = 0 ∧ win0_0.index t 3 = 0)
    ∧ win0_1.index t = win0_0.index t ∧ win0_2.index t = win0_0.index t := by decide +kernel

theorem index_const : ∀ t : Fin grid0.N,
    win0_3.index t = (fun _ => 0) ∧ win0_4.index t = (fun _ => 0) ∧ win0_5.index t = (fun _ => 0) ∧ win0_6.index t = (fun _ => 0)
    ∧ win0_8.index t = (fun _ => 0) := by decide +kernel

theorem index_table : ∀ t : Fin grid0.N, win0_7.index t 0 = t.val % 4 ∧ win0_7.index t 1 = 0 := by decide +kernel

theorem index_out : ∀ t : Fin grid0.N,
    (win0_9.index t 0 = t.val ∧ win0_9.index t 1 = 0 ∧ win0_9.index t 2 = 0)
    ∧ (win0_10.index t 0 = t.val / 4 ∧ win0_10.index t 1 = 0 ∧ win0_10.index t 2 = t.val % 4 ∧ win0_10.index t 3 = 0) := by decide +kernel

theorem points : cfg0.N = 64 := by decide +kernel

/-- Point `t`'s batch. -/
def batch (t : Fin cfg0.N) : Fin 16 := ⟨t.val / 4, by have h := t.isLt; have e := points; omega⟩
/-- The variable in row `p` of point `t`'s blocks. -/
def variableAt (t : Fin cfg0.N) (p : Fin 16) : Fin 64 := ⟨t.val % 4 * 16 + p.val, by omega⟩

/-- An element of a sequence block sits at its batch, its variable and its own row. -/
theorem seq_emb (t : Fin cfg0.N) (p : Fin 16) (r : Fin 513) :
    (win0_0.rect t).emb (ix4 0 p r 0) = (ix4 (batch t) (variableAt t p) r 0 : S16x64x513x1.Idx) := by
  obtain ⟨⟨e0, e1, e2, e3⟩, -, -⟩ := index_seq t
  refine funext fun a => Fin.ext ((Window.rect_emb_val win0_0 t _ a rfl).trans ?_)
  match a with
  | ⟨0, _⟩ => show win0_0.index t 0 * 1 + 0 = t.val / 4; omega
  | ⟨1, _⟩ => show win0_0.index t 1 * 16 + p.val = t.val % 4 * 16 + p.val; rw [e1]
  | ⟨2, _⟩ => show win0_0.index t 2 * 513 + r.val = r.val; omega
  | ⟨3, _⟩ => show win0_0.index t 3 * 1 + 0 = 0; omega

/-- The times' block. -/
theorem block_times (t : Fin cfg0.N) (p : Fin 16) (r : Fin 513) (hr : r.val ≠ 0) :
    iblk m c 0 t (ix4 0 p r 0) = (args m c).tt (ix3 (batch t) ⟨r.val - 1, by omega⟩ (variableAt t p)) := by
  unfold iblk
  rw [View.read_apply]
  exact (congrArg (V m c main_v2) (seq_emb t p r)).trans (times m c _ _ r hr)

/-- The values' block. -/
theorem block_values (t : Fin cfg0.N) (p : Fin 16) (r : Fin 513) (hr : r.val ≠ 0) :
    iblk m c 1 t (ix4 0 p r 0) = (args m c).x (ix3 (batch t) ⟨r.val - 1, by omega⟩ (variableAt t p)) := by
  unfold iblk
  rw [View.read_apply]
  exact (congrArg (V m c main_v5) (seq_emb t p r)).trans (values m c _ _ r hr)

/-- The mask's block. -/
theorem block_mask (t : Fin cfg0.N) (p : Fin 16) (r : Fin 513) (hr : r.val ≠ 0) :
    iblk m c 2 t (ix4 0 p r 0) = (args m c).xm (ix3 (batch t) ⟨r.val - 1, by omega⟩ (variableAt t p)) := by
  unfold iblk
  rw [View.read_apply]
  exact (congrArg (V m c main_v8) (seq_emb t p r)).trans (mask m c _ _ r hr)

/-- The table's block: sixteen variables' rows. -/
theorem block_table (t : Fin cfg0.N) (p : Fin 16) (d : Fin 128) :
    iblk m c 7 t (ix2 p d) = (args m c).var (ix2 (variableAt t p) d) := by
  unfold iblk
  rw [View.read_apply]
  have e : (win0_7.rect t).emb (ix2 p d) = (ix2 (variableAt t p) d : S64x128.Idx) := by
    obtain ⟨e0, e1⟩ := index_table t
    refine funext fun a => Fin.ext ((Window.rect_emb_val win0_7 t _ a rfl).trans ?_)
    match a with
    | ⟨0, _⟩ => show win0_7.index t 0 * 16 + p.val = t.val % 4 * 16 + p.val; rw [e0]
    | ⟨1, _⟩ => show win0_7.index t 1 * 128 + d.val = d.val; omega
  exact (congrArg (V m c main_arg9) e).trans (congrFun (V_main_arg9 m c) _)

/-- The small operands are staged whole. -/
theorem block_weights (t : Fin cfg0.N) (d : Fin 128) : iblk m c 3 t (ix2 0 d) = wt (args m c) d := by
  unfold iblk
  rw [View.read_apply]
  exact (congrArg (V m c main_v9) (funext fun a => Fin.ext (Window.rect_emb_val_of_index_zero win0_3 t a
    (congrFun (index_const t).1 a) _))).trans (weights m c d)

theorem block_biases (t : Fin cfg0.N) (d : Fin 128) : iblk m c 4 t (ix2 0 d) = bt (args m c) d := by
  unfold iblk
  rw [View.read_apply]
  exact (congrArg (V m c main_v11) (funext fun a => Fin.ext (Window.rect_emb_val_of_index_zero win0_4 t a
    (congrFun (index_const t).2.1 a) _))).trans (biases m c d)

theorem block_value_weights (t : Fin cfg0.N) (k : Fin 2) (d : Fin 128) : iblk m c 5 t (ix2 k d) = (args m c).wval (ix2 k d) := by
  unfold iblk
  rw [View.read_apply]
  exact (congrArg (V m c main_arg7) (funext fun a => Fin.ext (Window.rect_emb_val_of_index_zero win0_5 t a
    (congrFun (index_const t).2.2.1 a) _))).trans (congrFun (V_main_arg7 m c) _)

theorem block_value_bias (t : Fin cfg0.N) (d : Fin 128) :
    iblk m c 6 t (ix2 0 d) = (args m c).bval (ix1 d) + (args m c).ind (ix2 1 d) := by
  unfold iblk
  rw [View.read_apply]
  exact (congrArg (V m c main_v15) (funext fun a => Fin.ext (Window.rect_emb_val_of_index_zero win0_6 t a
    (congrFun (index_const t).2.2.2.1 a) _))).trans (value_bias m c d)

theorem block_indicators (t : Fin cfg0.N) (k : Fin 2) (d : Fin 128) : iblk m c 8 t (ix2 k d) = (args m c).ind (ix2 k d) := by
  unfold iblk
  rw [View.read_apply]
  exact (congrArg (V m c main_arg10) (funext fun a => Fin.ext (Window.rect_emb_val_of_index_zero win0_8 t a
    (congrFun (index_const t).2.2.2.2 a) _))).trans (congrFun (V_main_arg10 m c) _)

/-- Row `r` of row `p` of point `t`'s block of the first result: that row of the block's own sequence. -/
theorem out_block (sn : EReal → EReal) (t : Fin cfg0.N) (p : Fin 16) (r : Fin 513) (d : Fin 128) :
    out (args m c) sn ((win0_9.rect t).emb (ix3 p r d)) = outAt (args m c) sn (batch t) (variableAt t p) r d := by
  obtain ⟨⟨e0, e1, e2⟩, -⟩ := index_out t
  have hN := points
  have ht := t.isLt
  have e : (win0_9.rect t).emb (ix3 p r d) = (ix3 ⟨t.val * 16 + p.val, by omega⟩ r d : S1024x513x128.Idx) := by
    refine funext fun a => Fin.ext ((Window.rect_emb_val win0_9 t _ a rfl).trans ?_)
    match a with
    | ⟨0, _⟩ => show win0_9.index t 0 * 16 + p.val = t.val * 16 + p.val; rw [e0]
    | ⟨1, _⟩ => show win0_9.index t 1 * 513 + r.val = r.val; omega
    | ⟨2, _⟩ => show win0_9.index t 2 * 128 + d.val = d.val; omega
  have eb : (⟨(t.val * 16 + p.val) / 64, by omega⟩ : Fin 16) = batch t := Fin.ext (by show (t.val * 16 + p.val) / 64 = t.val / 4; omega)
  have ej : (⟨(t.val * 16 + p.val) % 64, by omega⟩ : Fin 64) = variableAt t p := Fin.ext (by show (t.val * 16 + p.val) % 64 = t.val % 4 * 16 + p.val; omega)
  refine (congrArg (out (args m c) sn) e).trans ?_
  show outAt (args m c) sn ⟨(t.val * 16 + p.val) / 64, _⟩ ⟨(t.val * 16 + p.val) % 64, _⟩ r d = _
  rw [eb, ej]

/-- Row `p` of point `t`'s block of the second result: the prompt of the block's own variable. -/
theorem prompts_block (t : Fin cfg0.N) (p : Fin 16) (d : Fin 128) :
    prompts (args m c) ((win0_10.rect t).emb (ix4 0 0 p d)) = prompt (args m c) (variableAt t p) d := by
  obtain ⟨-, e0, e1, e2, e3⟩ := index_out t
  have e : (win0_10.rect t).emb (ix4 0 0 p d) = (ix4 (batch t) 0 (variableAt t p) d : S16x1x64x128.Idx) := by
    refine funext fun a => Fin.ext ((Window.rect_emb_val win0_10 t _ a rfl).trans ?_)
    match a with
    | ⟨0, _⟩ => show win0_10.index t 0 * 1 + 0 = t.val / 4; omega
    | ⟨1, _⟩ => show win0_10.index t 1 * 1 + 0 = 0; omega
    | ⟨2, _⟩ => show win0_10.index t 2 * 16 + p.val = t.val % 4 * 16 + p.val; rw [e2]
    | ⟨3, _⟩ => show win0_10.index t 3 * 128 + d.val = d.val; omega
  exact congrArg (prompts (args m c)) e

/-- What point `t` writes back to the first result is its block of the embedding. -/
theorem flushed9_eq (t : Fin cfg0.N) :
    (dats m 0 c).flushed 9 t = ((cfg0.win 9).blk t).view.read (Elt Ideal) (out (args m c) Ideal.sin) := by
  rw [Cert.KernelIdeal.Value.flushed9_A]
  funext y
  rw [View.read_apply]
  obtain ⟨p, r, d, rfl⟩ : ∃ (p : Fin 16) (r : Fin 513) (d : Fin 128), y = ix3 p r d := ⟨y 0, y 1, y 2, eq_ix3 y⟩
  refine Eq.trans ?_ (out_block m c Ideal.sin t p r d).symm
  show out0_A_9 (F := Ideal) _ _ _ _ _ _ _ _ _ _ _ _ _ _ _ _ _ _ _ _ _ _ _ _ _ _ _ _ _ _ _ _ _ (ix3 p r d)
    = outAt (args m c) Ideal.sin (batch t) (variableAt t p) r d
  rw [out9_apply]
  unfold outAt
  by_cases hr : r.val = 0
  · rw [if_pos hr, dif_pos hr]
    unfold prompt
    rw [block_table, block_indicators]
  · rw [if_neg hr, dif_neg hr]
    unfold emb
    rw [block_times m c t p r hr, block_values m c t p r hr, block_mask m c t p r hr, block_weights, block_biases, block_value_weights,
      block_value_weights, block_value_bias]

/-- What point `t` writes back to the second result is its block of the prompts. -/
theorem flushed10_eq (t : Fin cfg0.N) :
    (dats m 0 c).flushed 10 t = ((cfg0.win 10).blk t).view.read (Elt Ideal) (prompts (args m c)) := by
  rw [Cert.KernelIdeal.Value.flushed10_A]
  funext y
  rw [View.read_apply]
  obtain ⟨a, b, p, d, rfl⟩ : ∃ (a : Fin 1) (b : Fin 1) (p : Fin 16) (d : Fin 128), y = ix4 a b p d := ⟨y 0, y 1, y 2, y 3, eq_ix4 y⟩
  obtain rfl : a = 0 := Subsingleton.elim _ _
  obtain rfl : b = 0 := Subsingleton.elim _ _
  refine Eq.trans ?_ (prompts_block m c t p d).symm
  show out0_A_10 (F := Ideal) _ _ _ _ _ _ _ _ _ _ _ _ _ _ _ _ _ _ _ _ _ _ _ _ _ _ _ _ _ _ _ _ _ (ix4 0 0 p d)
    = prompt (args m c) (variableAt t p) d
  rw [out10_apply]
  unfold prompt
  rw [block_table, block_indicators]

/-- Every element of the first result is in some point's block, and every point writes its block back. -/
theorem covered9 (i : S1024x513x128.Idx) : ∃ t : Fin cfg0.N, (cfg0.win 9).flush t = true ∧ i ∈ ((cfg0.win 9).blk t).view.set := by
  have hi : (i 0 : Nat) < 1024 := (i 0).isLt
  have h1 : (i 1 : Nat) < 513 := (i 1).isLt
  have h2 : (i 2 : Nat) < 128 := (i 2).isLt
  obtain ⟨t, ht⟩ : ∃ t : Fin cfg0.N, t.val = (i 0 : Nat) / 16 := ⟨⟨_, by rw [points]; omega⟩, rfl⟩
  refine ⟨t, flush0_9 t, ?_⟩
  obtain ⟨⟨e0, e1, e2⟩, -⟩ := index_out t
  show i ∈ ((View.whole main_v16_0).slice (win0_9.rect t)).set
  rw [View.set_slice_whole, Rect.mem_set_unit]
  intro a
  match a with
  | ⟨0, _⟩ => show win0_9.index t 0 * 16 ≤ (i 0 : Nat) ∧ (i 0 : Nat) < win0_9.index t 0 * 16 + 16; rw [e0]; omega
  | ⟨1, _⟩ => show win0_9.index t 1 * 513 ≤ (i 1 : Nat) ∧ (i 1 : Nat) < win0_9.index t 1 * 513 + 513; rw [e1]; omega
  | ⟨2, _⟩ => show win0_9.index t 2 * 128 ≤ (i 2 : Nat) ∧ (i 2 : Nat) < win0_9.index t 2 * 128 + 128; rw [e2]; omega

/-- Every element of the second result is in some point's block, and every point writes its block back. -/
theorem covered10 (i : S16x1x64x128.Idx) : ∃ t : Fin cfg0.N, (cfg0.win 10).flush t = true ∧ i ∈ ((cfg0.win 10).blk t).view.set := by
  have h0 : (i 0 : Nat) < 16 := (i 0).isLt
  have h1 : (i 1 : Nat) < 1 := (i 1).isLt
  have h2 : (i 2 : Nat) < 64 := (i 2).isLt
  have h3 : (i 3 : Nat) < 128 := (i 3).isLt
  obtain ⟨t, ht⟩ : ∃ t : Fin cfg0.N, t.val = (i 0 : Nat) * 4 + (i 2 : Nat) / 16 := ⟨⟨_, by rw [points]; omega⟩, rfl⟩
  refine ⟨t, flush0_10 t, ?_⟩
  obtain ⟨-, e0, e1, e2, e3⟩ := index_out t
  show i ∈ ((View.whole main_v16_1).slice (win0_10.rect t)).set
  rw [View.set_slice_whole, Rect.mem_set_unit]
  intro a
  match a with
  | ⟨0, _⟩ => show win0_10.index t 0 * 1 ≤ (i 0 : Nat) ∧ (i 0 : Nat) < win0_10.index t 0 * 1 + 1; rw [e0]; omega
  | ⟨1, _⟩ => show win0_10.index t 1 * 1 ≤ (i 1 : Nat) ∧ (i 1 : Nat) < win0_10.index t 1 * 1 + 1; rw [e1]; omega
  | ⟨2, _⟩ => show win0_10.index t 2 * 16 ≤ (i 2 : Nat) ∧ (i 2 : Nat) < win0_10.index t 2 * 16 + 16; rw [e2]; omega
  | ⟨3, _⟩ => show win0_10.index t 3 * 128 ≤ (i 3 : Nat) ∧ (i 3 : Nat) < win0_10.index t 3 * 128 + 128; rw [e3]; omega

/-- The first result after the run: every sequence's block is written, so it is the embedding. -/
theorem final9 : (dats m 0 c).arrAt 9 cfg0.N = out (args m c) Ideal.sin :=
  (dats m 0 c).arrAt_eq_of_cover 9 (out (args m c) Ideal.sin) (fun t _ => flushed9_eq m c t) covered9

/-- The second result after the run: the prompts, in every batch. -/
theorem final10 : (dats m 0 c).arrAt 10 cfg0.N = prompts (args m c) :=
  (dats m 0 c).arrAt_eq_of_cover 10 (prompts (args m c)) (fun t _ => flushed10_eq m c t) covered10

end Cert.Embed.Sine

end
-- ==== Proof.Take.lean ====
/-
  Looking rows up in a table of 128 lanes: a gather of whole rows by an array of row numbers, read at an index, and the
  mask of row numbers in range that guards it.
-/
module

public import Idealize.ShloMosaic.Lib.Pointwise
public import Idealize.ShloMosaic.Lib.ReduceAll
public import Idealize.ShloMosaic.Lib.Affine
public import Idealize.ShloMosaic.PureOps.Ideal

@[expose] public section

namespace Cert.Embed

open Idealize.ShloMosaic

/-- A table of `N` rows, an array of row numbers with a last axis of one, and the array of the rows looked up. -/
abbrev TableOf (N : Nat) : Shape := ⟨2, ![N, 128]⟩
abbrev Rows (A B C : Nat) : Shape := ⟨4, ![A, B, C, 1]⟩
abbrev Looked (A B C : Nat) : Shape := ⟨4, ![A, B, C, 128]⟩

/-- The dimension numbers of a lookup of whole rows. -/
abbrev lookupDims (N A B C : Nat) (wf : GatherDims.WF (TableOf N) (Rows A B C) (Looked A B C) [3] [0] [] [0] [] 3 ![1, 128]) :
    GatherDims (TableOf N) (Rows A B C) (Looked A B C) where
  offsetDims := [3]
  collapsedSliceDims := [0]
  operandBatchingDims := []
  startIndicesBatchingDims := []
  startIndexMap := [0]
  indexVectorDim := 3
  sliceSizes := ![1, 128]
  wf := wf

/-- A lookup reads, at `(a, b, c, d)`, lane `d` of the row whose number stands at `(a, b, c)`, when that is a row of the
    table. -/
theorem lookup_apply {N A B C : Nat} (wf) (x : (TableOf N).Idx → EReal) (rows : IVec (Rows A B C) 32) (a : Fin A) (b : Fin B)
    (c : Fin C) (d : Fin 128) (n : Fin N) (hn : (rows (ix4 a b c 0)).toInt = n.val) :
    Host.gather (lookupDims N A B C wf) x rows (ix4 a b c d) = x (ix2 n d) := by
  unfold Host.gather
  congr 1
  funext e
  refine Fin.ext ?_
  show (lookupDims N A B C wf).start (ix4 a b c d) rows e + (lookupDims N A B C wf).batchCoord (ix4 a b c d) e
      + (lookupDims N A B C wf).offCoord (ix4 a b c d) e = _
  rw [GatherDims.batchCoord_eq_zero _ _ _ List.not_mem_nil]
  have h01 : e = 0 ∨ e = 1 := by
    match e with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (lookupDims N A B C wf).startIndexMap from List.mem_singleton.mpr rfl)]
    have hsi : (lookupDims N A B C wf).siIdx (ix4 a b c d) ⟨List.idxOf (0 : Fin 2) (lookupDims N A B C wf).startIndexMap,
        List.idxOf_lt_length_iff.2 (List.mem_singleton.mpr rfl)⟩ = ix4 a b c 0 := by
      funext k
      match k with
      | ⟨0, _⟩ => rfl
      | ⟨1, _⟩ => rfl
      | ⟨2, _⟩ => rfl
      | ⟨3, _⟩ => rfl
    rw [hsi, hn]
    have := n.isLt
    show min ((n.val : Int)).toNat (N - 1) + 0 + 0 = n.val
    rw [Int.toNat_natCast]; omega
  · unfold GatherDims.start
    rw [dif_neg (show ¬ (1 : Fin 2) ∈ (lookupDims N A B C wf).startIndexMap from by simp)]
    show 0 + 0 + d.val = d.val
    omega

end Cert.Embed
-- ==== Proof.RefValue.lean ====
/-
  The reference's two results as plain mathematics: the embedding with the sine itself, and the prompts.
-/
module

public import proofs.«01_k».proof.Proof.Host
public import proofs.«01_k».proof.Proof.Take
public import proofs.«01_k».proof.Proof.Gen.ReferenceIdeal.Read
public import Idealize.ShloMosaic.Lib.Tactic

@[expose] public section

noncomputable section

open Idealize.ShloMosaic Idealize.ShloMosaic.TcCoe Idealize.SL.Sem

namespace Cert.Embed.Ref

open Cert.ReferenceIdeal Cert.ReferenceIdeal.Gen Cert.ReferenceIdeal.Read

variable (A : Args)

/-- The row number the second indicator is looked up by: 1 everywhere. -/
theorem ones_row (b : Fin 16) (t : Fin 512) (j : Fin 64) : val_main_call0_v5 (F := Ideal) (ix4 b t j 0) = 1#32 := by
  unfold val_main_call0_v5 val_main_call0_v4 val_main_call0_v3 val_main_call0_v2 val_main_call0_v1 val_main_call0_v0 val_main_v18
    val_main_call0_c_0 val_main_call0_c val_main_c
  pointwise
  rfl

/-- The row number a variable is looked up by: its own. -/
theorem variable_row (b : Fin 16) (j : Fin 64) : val_main_call1_v5 (F := Ideal) (ix4 b 0 j 0) = BitVec.ofNat 32 j.val := by
  unfold val_main_call1_v5 val_main_call1_v4 val_main_call1_v3 val_main_call1_v2 val_main_call1_v1 val_main_call1_v0 val_main_v27
    val_main_v26 val_main_v25 val_main_call1_c_0 val_main_call1_c
  pointwise
  revert j
  decide +kernel

/-- The row number the first indicator is looked up by: 0 everywhere. -/
theorem zeros_row (b : Fin 16) (j : Fin 64) : val_main_call2_v5 (F := Ideal) (ix4 b 0 j 0) = 0#32 := by
  unfold val_main_call2_v5 val_main_call2_v4 val_main_call2_v3 val_main_call2_v2 val_main_call2_v1 val_main_call2_v0 val_main_v28
    val_main_call2_c_0 val_main_call2_c val_main_c_0
  pointwise
  rfl

/-- An index of an array whose last axis has one place. -/
theorem eq_last {p q r : Nat} (i : (⟨4, ![p, q, r, 1]⟩ : Shape).Idx) : i = ix4 (i 0) (i 1) (i 2) 0 := by
  funext a
  match a with
  | ⟨0, _⟩ => rfl
  | ⟨1, _⟩ => rfl
  | ⟨2, _⟩ => rfl
  | ⟨3, _⟩ => exact Subsingleton.elim (α := Fin 1) _ _

/-- An index of an array whose second and last axes have one place each. -/
theorem eq_mid_last {p r : Nat} (i : (⟨4, ![p, 1, r, 1]⟩ : Shape).Idx) : i = ix4 (i 0) 0 (i 2) 0 := by
  funext a
  match a with
  | ⟨0, _⟩ => rfl
  | ⟨1, _⟩ => exact Subsingleton.elim (α := Fin 1) _ _
  | ⟨2, _⟩ => rfl
  | ⟨3, _⟩ => exact Subsingleton.elim (α := Fin 1) _ _

/-- Every row number of the second indicator is in range. -/
theorem ones_in_range (i : S16x512x64.Idx) : val_main_call0_v12 (F := Ideal) i = 1#1 := by
  unfold val_main_call0_v12
  refine Host.reduce_andi_one _ _ _ _ _ rfl fun k => ?_
  unfold val_main_call0_v11 val_main_call0_v10 val_main_call0_v9 val_main_call0_v8 val_main_call0_v7 val_main_call0_v6
    val_main_call0_c_1 val_main_call0_c_2
  obtain ⟨b, t, j, rfl⟩ : ∃ b t j, k = ix4 b t j 0 := ⟨_, _, _, eq_last k⟩
  pointwise
  rw [ones_row]
  rfl

/-- Every variable's row number is in range. -/
theorem variables_in_range (i : S16x1x64.Idx) : val_main_call1_v12 (F := Ideal) i = 1#1 := by
  unfold val_main_call1_v12
  refine Host.reduce_andi_one _ _ _ _ _ rfl fun k => ?_
  unfold val_main_call1_v11 val_main_call1_v10 val_main_call1_v9 val_main_call1_v8 val_main_call1_v7 val_main_call1_v6
    val_main_call1_c_1 val_main_call1_c_2
  obtain ⟨b, j, rfl⟩ : ∃ b j, k = ix4 b 0 j 0 := ⟨_, _, eq_mid_last k⟩
  pointwise
  rw [variable_row]
  revert j
  decide +kernel

/-- Every row number of the first indicator is in range. -/
theorem zeros_in_range (i : S16x1x64.Idx) : val_main_call2_v12 (F := Ideal) i = 1#1 := by
  unfold val_main_call2_v12
  refine Host.reduce_andi_one _ _ _ _ _ rfl fun k => ?_
  unfold val_main_call2_v11 val_main_call2_v10 val_main_call2_v9 val_main_call2_v8 val_main_call2_v7 val_main_call2_v6
    val_main_call2_c_1 val_main_call2_c_2
  obtain ⟨b, j, rfl⟩ : ∃ b j, k = ix4 b 0 j 0 := ⟨_, _, eq_mid_last k⟩
  pointwise
  rw [zeros_row]
  rfl

/-- The second indicator, looked up for every element. -/
theorem ones_taken (b : Fin 16) (t : Fin 512) (j : Fin 64) (d : Fin 128) :
    val_main_v19 (F := Ideal) A.ind (ix4 b t j d) = A.ind (ix2 1 d) := by
  rw [val_main_v19_apply, val_main_call0_v14_apply, ones_in_range]
  exact lookup_apply _ A.ind _ b t j d 1 (by rw [ones_row]; rfl)

/-- A variable's row of the table, looked up. -/
theorem variable_taken (b : Fin 16) (j : Fin 64) (d : Fin 128) :
    val_main_v29 (F := Ideal) A.var (ix4 b 0 j d) = A.var (ix2 j d) := by
  rw [val_main_v29_apply, val_main_call1_v14_apply, variables_in_range]
  exact lookup_apply _ A.var _ b 0 j d j (by rw [variable_row]; revert j; decide +kernel)

/-- The first indicator, looked up for every variable. -/
theorem zeros_taken (b : Fin 16) (j : Fin 64) (d : Fin 128) :
    val_main_v30 (F := Ideal) A.ind (ix4 b 0 j d) = A.ind (ix2 0 d) := by
  rw [val_main_v30_apply, val_main_call2_v14_apply, zeros_in_range]
  exact lookup_apply _ A.ind _ b 0 j d 0 (by rw [zeros_row]; rfl)

/-- The prompts. -/
theorem prompt_eq (b : Fin 16) (j : Fin 64) (d : Fin 128) :
    val_main_v31 (F := Ideal) A.var A.ind (ix4 b 0 j d) = prompt A j d := by
  rw [val_main_v31_apply, variable_taken, zeros_taken]
  rfl

/-- The linear layer's value: lane 0 of the time layer. -/
theorem linear_eq (b : Fin 16) (t : Fin 512) (j : Fin 64) :
    val_main_v4 (F := Ideal) A.tt A.wlin A.blin (ix4 b t j 0) = A.tt (ix3 b t j) * A.wlin (ix2 0 0) + A.blin (ix1 0) := by
  rw [val_main_v4_apply, val_main_v1_apply, Fin.sum_univ_one]
  unfold val_main_v0 val_main_v3 val_main_v2
  pointwise
  rw [show ridx_main_v1 (ix4 b t j 0) 0 = ix2 0 0 from by funext a; match a with | ⟨0, _⟩ => rfl | ⟨1, _⟩ => rfl]

/-- The periodic layer's value, before its sine. -/
theorem periodic_eq (b : Fin 16) (t : Fin 512) (j : Fin 64) (d : Fin 127) :
    val_main_v8 (F := Ideal) A.tt A.wper A.bper (ix4 b t j d) = A.tt (ix3 b t j) * A.wper (ix2 0 d) + A.bper (ix1 d) := by
  rw [val_main_v8_apply, val_main_v5_apply, Fin.sum_univ_one]
  unfold val_main_v0 val_main_v7 val_main_v6
  pointwise
  rw [show ridx_main_v5 (ix4 b t j d) 0 = ix2 0 d from by funext a; match a with | ⟨0, _⟩ => rfl | ⟨1, _⟩ => rfl]

/-- The time layer's value, its sine taken after lane 0. -/
theorem time_eq (b : Fin 16) (t : Fin 512) (j : Fin 64) (d : Fin 128) :
    val_main_v10 (F := Ideal) A.tt A.wper A.bper A.wlin A.blin (ix4 b t j d)
      = if d.val = 0 then pre A b t j d else Ideal.sin (pre A b t j d) := by
  unfold val_main_v10 pre wt bt
  split
  · refine (concatenate_pair_apply_left 3 _ _ concatenates_S16x512x64x1_S16x512x64x127_S16x512x64x128_d3 _ rfl (ix4 b t j 0) (by
      intro c; match c with | ⟨0, _⟩ => rfl | ⟨1, _⟩ => rfl | ⟨2, _⟩ => rfl | ⟨3, _⟩ => simp [ix4, *])).trans ?_
    rw [linear_eq]
  · refine (concatenate_pair_apply_right 3 _ _ concatenates_S16x512x64x1_S16x512x64x127_S16x512x64x128_d3 _ rfl rfl
      (ix4 b t j ⟨d.val - 1, by omega⟩) (by
      intro c hc; match c with | ⟨0, _⟩ => rfl | ⟨1, _⟩ => rfl | ⟨2, _⟩ => rfl | ⟨3, _⟩ => exact absurd rfl hc) (by
      simp [ix4]; omega)).trans ?_
    rw [val_main_v9_apply, periodic_eq]
    rfl

/-- The value layer's two inputs side by side. -/
theorem inputs_eq (b : Fin 16) (t : Fin 512) (j : Fin 64) :
    val_main_v13 (F := Ideal) A.x A.xm (ix4 b t j 0) = A.x (ix3 b t j)
      ∧ val_main_v13 (F := Ideal) A.x A.xm (ix4 b t j 1) = A.xm (ix3 b t j) := by
  unfold val_main_v13
  constructor
  · refine (concatenate_pair_apply_left 3 _ _ concatenates_S16x512x64x1_S16x512x64x1_S16x512x64x2_d3 _ rfl (ix4 b t j 0) (by
      intro c; match c with | ⟨0, _⟩ => rfl | ⟨1, _⟩ => rfl | ⟨2, _⟩ => rfl | ⟨3, _⟩ => rfl)).trans ?_
    unfold val_main_v11
    pointwise
  · refine (concatenate_pair_apply_right 3 _ _ concatenates_S16x512x64x1_S16x512x64x1_S16x512x64x2_d3 _ rfl rfl (ix4 b t j 0) (by
      intro c hc; match c with | ⟨0, _⟩ => rfl | ⟨1, _⟩ => rfl | ⟨2, _⟩ => rfl | ⟨3, _⟩ => exact absurd rfl hc) (by
      rfl)).trans ?_
    unfold val_main_v12
    pointwise

/-- The value layer. -/
theorem value_eq (b : Fin 16) (t : Fin 512) (j : Fin 64) (d : Fin 128) :
    val_main_v17 (F := Ideal) A.x A.xm A.wval A.bval (ix4 b t j d)
      = A.x (ix3 b t j) * A.wval (ix2 0 d) + A.xm (ix3 b t j) * A.wval (ix2 1 d) + A.bval (ix1 d) := by
  rw [val_main_v17_apply, val_main_v14_apply, Fin.sum_univ_two]
  unfold val_main_v16 val_main_v15
  pointwise
  have hl : ∀ k : Fin 2, lidx_main_v14 (ix4 b t j d) k = ix4 b t j k := fun k => by
    funext a; match a with | ⟨0, _⟩ => rfl | ⟨1, _⟩ => rfl | ⟨2, _⟩ => rfl | ⟨3, _⟩ => rfl
  have hr : ∀ k : Fin 2, ridx_main_v14 (ix4 b t j d) k = ix2 k d := fun k => by
    funext a; match a with | ⟨0, _⟩ => rfl | ⟨1, _⟩ => rfl
  rw [hl, hl, hr, hr, (inputs_eq A b t j).1, (inputs_eq A b t j).2]

/-- One embedded step. -/
theorem embedded_eq (b : Fin 16) (t : Fin 512) (j : Fin 64) (d : Fin 128) :
    val_main_v24 (F := Ideal) A.tt A.x A.xm A.wper A.bper A.wlin A.blin A.wval A.bval A.ind (ix4 b t j d)
      = emb A Ideal.sin b t j d := by
  rw [val_main_v24_apply, val_main_v23_apply, val_main_v22_apply, value_eq, ones_taken, time_eq]
  unfold val_main_v21 val_main_v20
  pointwise
  unfold emb cell pre
  simp only [add_assoc]

/-- The prompts put in front of the embedded steps. -/
theorem joined_eq (b : Fin 16) (r : Fin 513) (j : Fin 64) (d : Fin 128) :
    val_main_v32 (F := Ideal) A.tt A.x A.xm A.wper A.bper A.wlin A.blin A.wval A.bval A.var A.ind (ix4 b r j d)
      = outAt A Ideal.sin b j r d := by
  unfold val_main_v32 outAt
  split
  · refine (concatenate_pair_apply_left 1 _ _ concatenates_S16x1x64x128_S16x512x64x128_S16x513x64x128_d1 _ rfl (ix4 b 0 j d) (by
      intro c; match c with | ⟨0, _⟩ => rfl | ⟨1, _⟩ => simp [ix4, *] | ⟨2, _⟩ => rfl | ⟨3, _⟩ => rfl)).trans ?_
    exact prompt_eq A b j d
  · refine (concatenate_pair_apply_right 1 _ _ concatenates_S16x1x64x128_S16x512x64x128_S16x513x64x128_d1 _ rfl rfl
      (ix4 b ⟨r.val - 1, by omega⟩ j d) (by
      intro c hc; match c with | ⟨0, _⟩ => rfl | ⟨1, _⟩ => exact absurd rfl hc | ⟨2, _⟩ => rfl | ⟨3, _⟩ => rfl) (by
      simp [ix4]; omega)).trans ?_
    exact embedded_eq A b _ j d

/-- The reference's first result. -/
theorem out_eq : val_main_v34 (F := Ideal) A.tt A.x A.xm A.wper A.bper A.wlin A.blin A.wval A.bval A.var A.ind = out A Ideal.sin := by
  funext i
  have h0 : (i 0).val < 1024 := (i 0).isLt
  have h1 : (i 1).val < 513 := (i 1).isLt
  have h2 : (i 2).val < 128 := (i 2).isLt
  rw [val_main_v34_apply]
  refine Eq.trans ?_ (joined_eq A ⟨(i 0).val / 64, by omega⟩ (i 1) ⟨(i 0).val % 64, by omega⟩ (i 2))
  rw [val_main_v33_apply]
  congr 1
  funext a
  match a with
  | ⟨0, _⟩ => exact Fin.ext (by show (((i 0).val * 513 + (i 1).val) * 128 + (i 2).val) / 4202496 = (i 0).val / 64; omega)
  | ⟨1, _⟩ => exact Fin.ext (by show (((i 0).val * 513 + (i 1).val) * 128 + (i 2).val) / 128 % 513 = (i 1).val; omega)
  | ⟨2, _⟩ => exact Fin.ext (by show (((i 0).val * 513 + (i 1).val) * 128 + (i 2).val) / 65664 % 64 = (i 0).val % 64; omega)
  | ⟨3, _⟩ => exact Fin.ext (by show (((i 0).val * 513 + (i 1).val) * 128 + (i 2).val) % 128 = (i 2).val; omega)

/-- The reference's second result. -/
theorem prompts_eq : val_main_v31 (F := Ideal) A.var A.ind = prompts A := by
  funext i
  obtain ⟨b, j, d, rfl⟩ : ∃ b j d, i = ix4 b 0 j d := ⟨i 0, i 2, i 3, by
    funext a
    match a with
    | ⟨0, _⟩ => rfl
    | ⟨1, _⟩ => exact Subsingleton.elim (α := Fin 1) _ _
    | ⟨2, _⟩ => rfl
    | ⟨3, _⟩ => rfl⟩
  exact prompt_eq A b j d

end Cert.Embed.Ref

end
-- ==== Proof.Equal.lean ====
/-
  The kernel with the library sine and the reference end with the same two arrays.
-/
module

public import proofs.«01_k».proof.Defs
public import proofs.«01_k».proof.Proof.KernelValue
public import proofs.«01_k».proof.Proof.RefValue
public import proofs.«01_k».proof.Proof.Gen.KernelIdeal.Value
public import proofs.«01_k».proof.Proof.Gen.ReferenceIdeal.Run
public import Idealize.ShloMosaic.Lib.Claim

@[expose] public section

noncomputable section

open Idealize.ShloMosaic Idealize.ShloMosaic.TcCoe Idealize.SL.Sem

namespace Cert.Embed

/-- From memories that agree on the arguments both programs end with the same results, the arguments unchanged. -/
theorem equal : Cert.algebraic_KernelIdeal_ReferenceIdeal := by
  pair_intro
  · run_from (Cert.KernelIdeal.Value.run_blocks (F := Ideal) m g)
  · run_from (Cert.ReferenceIdeal.Value.run (F := Ideal) m' g')
    · obtain ⟨h0, h1, h2, h3, h4, h5, h6, h7, h8, h9, h10⟩ := hagree c
      rw [Cert.ReferenceIdeal.Read.val_main_v34_eq, h0, h1, h2, h3, h4, h5, h6, h7, h8, h9, h10, Sine.final9]
      exact Ref.out_eq (Sine.args m c)
    · obtain ⟨-, -, -, -, -, -, -, -, -, h9, h10⟩ := hagree c
      rw [Cert.ReferenceIdeal.Read.val_main_v31_eq, h9, h10, Sine.final10]
      exact Ref.prompts_eq (Sine.args m c)

end Cert.Embed

end
-- ==== Proof.PolySin.lean ====
/-
  The kernel's polynomial sine over the extended reals, operation for operation.
-/
module

public import Idealize.ShloMosaic.PureOps.Ideal
public import Idealize.ShloMosaic.Lib.Tactic

@[expose] public section

noncomputable section

namespace Cert.Embed

open Idealize.ShloMosaic

/-- The nearest multiple of π, as a count: the floor of `p / π + 1/2`. -/
def turns (p : EReal) : EReal :=
  Ideal.liftRound Int.floor (p * Ideal.ofBits .f32 0x3EA2F983#32 + Ideal.ofBits .f32 0x3F000000#32)

/-- What is left of `p` after `n` times π, π in two pieces. -/
def reduced (p n : EReal) : EReal :=
  p - n * Ideal.ofBits .f32 0x40490000#32 - n * Ideal.ofBits .f32 0x3A7DAA22#32

/-- The odd polynomial of degree 7. -/
def odd7 (r : EReal) : EReal :=
  r * (Ideal.ofBits .f32 0x3F7FFFC7#32 + r * r * (Ideal.ofBits .f32 0xBE2AA5D6#32 + r * r * (Ideal.ofBits .f32 0x3C081741#32
    + r * r * Ideal.ofBits .f32 0xB9408E8F#32)))

/-- The polynomial sine: the odd polynomial of what is left, negated after an odd number of turns. -/
def polySin (p : EReal) : EReal :=
  Scalar.select (IntOp.cmpi .ne (IntOp.andi (Ideal.fptosi 32 (turns p)) 1#32) 0#32)
    (0 - odd7 (reduced p (turns p))) (odd7 (reduced p (turns p)))

end Cert.Embed

end
-- ==== Proof.SineBound.lean ====
/-
  How far the kernel's polynomial is from the sine, over the real numbers.
-/
module

public import Mathlib.Analysis.SpecialFunctions.Trigonometric.Basic
public import Mathlib.Analysis.Complex.Exponential

@[expose] public section

noncomputable section

namespace Cert.Embed.Bound

/-- The sine's power series cut after its eleventh power. -/
def taylor (r : ℝ) : ℝ := r - r ^ 3 / 6 + r ^ 5 / 120 - r ^ 7 / 5040 + r ^ 9 / 362880 - r ^ 11 / 39916800

/-- The cosine's, cut after its fourteenth. -/
def taylorCos (r : ℝ) : ℝ :=
  1 - r ^ 2 / 2 + r ^ 4 / 24 - r ^ 6 / 720 + r ^ 8 / 40320 - r ^ 10 / 3628800 + r ^ 12 / 479001600 - r ^ 14 / 87178291200

/-- Fifteen terms of the exponential's series at `i r`: the cosine's part and the sine's. -/
theorem exp_sum (r : ℝ) : ∑ k ∈ Finset.range 15, ((r : ℂ) * Complex.I) ^ k / (k.factorial : ℂ)
    = (taylorCos r : ℂ) + ((taylor r + r ^ 13 / 6227020800 : ℝ) : ℂ) * Complex.I := by
  have h2 := Complex.I_sq
  have h3 : Complex.I ^ 3 = -Complex.I := by rw [pow_succ, h2]; ring
  have h4 : Complex.I ^ 4 = 1 := Complex.I_pow_four
  have step : ∀ n, Complex.I ^ (n + 4) = Complex.I ^ n := fun n => by rw [pow_add, h4, mul_one]
  simp only [Finset.sum_range_succ, Finset.sum_range_zero, mul_pow, step 1, step 2, step 3, step 4, step 5, step 6, step 7, step 8, step 9,
    step 10, step 0, h2, h3, h4, Nat.factorial]
  unfold taylor taylorCos
  push_cast
  ring

/-- The sine against its cut series with one more term. -/
theorem taylor_error (r : ℝ) (h : |r| ≤ 2) : |Real.sin r - (taylor r + r ^ 13 / 6227020800)| ≤ |r| ^ 15 / 1307674368000 * 2 := by
  have hn : ‖(r : ℂ) * Complex.I‖ = |r| := by rw [norm_mul, Complex.norm_I, mul_one, Complex.norm_real, Real.norm_eq_abs]
  have := Complex.exp_bound' (x := (r : ℂ) * Complex.I) (n := 15) (by rw [hn]; norm_num; linarith)
  rw [exp_sum, hn] at this
  have him := (Complex.abs_im_le_norm _).trans this
  have e : (Complex.exp ((r : ℂ) * Complex.I) - ((taylorCos r : ℂ) + ((taylor r + r ^ 13 / 6227020800 : ℝ) : ℂ) * Complex.I)).im
      = Real.sin r - (taylor r + r ^ 13 / 6227020800) := by
    rw [Complex.sub_im, Complex.exp_ofReal_mul_I_im, Complex.add_im, Complex.ofReal_im, Complex.im_ofReal_mul, Complex.I_im]
    ring
  rw [e] at him
  norm_num [Nat.factorial] at him
  exact him

/-- Up to 1.571 the cut series is within 6e-8 of the sine. -/
theorem taylor_near (r : ℝ) (h : |r| ≤ 1571 / 1000) : |taylor r - Real.sin r| ≤ 6 / 10 ^ 8 := by
  have he := taylor_error r (by linarith)
  have h15 : |r| ^ 15 ≤ (1571 / 1000) ^ 15 := pow_le_pow_left₀ (abs_nonneg r) h 15
  have h13 : |r ^ 13| ≤ (1571 / 1000) ^ 13 := by rw [abs_pow]; exact pow_le_pow_left₀ (abs_nonneg r) h 13
  rw [abs_le] at he h13 ⊢
  norm_num at h15 h13 ⊢
  constructor <;> linarith [he.1, he.2, h13.1, h13.2]

/-- π to ten places, from the sine of a sixth of it. -/
theorem pi_near : 3.14159265357 < Real.pi ∧ Real.pi < 3.14159265360 := by
  have h2 := Real.two_le_pi
  have h6 := Real.sin_pi_div_six
  constructor
  · by_contra hc
    have hle := Real.sin_le_sin_of_le_of_le_pi_div_two (x := Real.pi / 6) (y := 3.14159265357 / 6) (by linarith) (by linarith) (by linarith)
    have he := (abs_le.mp (taylor_error (3.14159265357 / 6) (by norm_num [abs_le]))).2
    rw [abs_of_pos (by norm_num : (0 : ℝ) < 3.14159265357 / 6)] at he
    unfold taylor at he
    norm_num at he hle h6
    linarith
  · by_contra hc
    have hle := Real.sin_le_sin_of_le_of_le_pi_div_two (x := 3.14159265360 / 6) (y := Real.pi / 6) (by linarith) (by linarith) (by linarith)
    have he := (abs_le.mp (taylor_error (3.14159265360 / 6) (by norm_num [abs_le]))).1
    rw [abs_of_pos (by norm_num : (0 : ℝ) < 3.14159265360 / 6)] at he
    unfold taylor at he
    norm_num at he hle h6
    linarith

/-- An argument of at most 5e-9 has a sine of at most 1.5e-8. -/
theorem sin_small (z : ℝ) (hz : |z| ≤ 1 / 10 ^ 8 / 2) : |Real.sin z| ≤ 3 / 2 / 10 ^ 8 := by
  have hb := taylor_error z (hz.trans (by norm_num))
  have h1 : ∀ k : ℕ, 0 < k → |z ^ k| ≤ (1 / 10 ^ 8 / 2) ^ k := fun k hk => by
    rw [abs_pow]; exact pow_le_pow_left₀ (abs_nonneg z) hz k
  have h15 := pow_le_pow_left₀ (abs_nonneg z) hz 15
  have b3 := abs_le.mp (h1 3 (by norm_num))
  have b5 := abs_le.mp (h1 5 (by norm_num))
  have b7 := abs_le.mp (h1 7 (by norm_num))
  have b9 := abs_le.mp (h1 9 (by norm_num))
  have b11 := abs_le.mp (h1 11 (by norm_num))
  have b13 := abs_le.mp (h1 13 (by norm_num))
  have b1 := abs_le.mp hz
  unfold taylor at hb
  rw [abs_le] at hb ⊢
  norm_num at *
  constructor <;> linarith [hb.1, hb.2, b3.1, b3.2, b5.1, b5.2, b7.1, b7.2, b9.1, b9.2, b11.1, b11.2, b13.1, b13.2, b1.1, b1.2]

/-- Arguments within 1e-8 of each other have sines within 3e-8. -/
theorem sin_close (x y : ℝ) (h : |x - y| ≤ 1 / 10 ^ 8) : |Real.sin x - Real.sin y| ≤ 3 / 10 ^ 8 := by
  have hs := sin_small ((x - y) / 2) (by rw [abs_div, abs_two]; linarith)
  rw [Real.sin_sub_sin, abs_mul, abs_mul, abs_two]
  have hc := Real.abs_cos_le_one ((x + y) / 2)
  nlinarith [abs_nonneg (Real.sin ((x - y) / 2)), abs_nonneg (Real.cos ((x + y) / 2))]

/-- The kernel's odd polynomial. -/
def odd (r : ℝ) : ℝ :=
  r * (16777159 / 16777216 + r * r * (-5591787 / 33554432 + r * r * (8918849 / 1073741824 + r * r * (-12619407 / 68719476736))))

/-- A polynomial of degree 5 is the mean, with non-negative weights, of its six control values on an interval; so it is
    no larger there than they are. -/
theorem controlled (d0 d1 d2 d3 d4 d5 a b M s : ℝ) (has : a ≤ s) (hsb : s ≤ b) (hab : a < b)
    (k0 : |d0 + d1 * a + d2 * a ^ 2 + d3 * a ^ 3 + d4 * a ^ 4 + d5 * a ^ 5| ≤ M)
    (k1 : |d0 + d1 * (4 * a + b) / 5 + d2 * (6 * a ^ 2 + 4 * a * b) / 10 + d3 * (4 * a ^ 3 + 6 * a ^ 2 * b) / 10
      + d4 * (a ^ 4 + 4 * a ^ 3 * b) / 5 + d5 * (a ^ 4 * b)| ≤ M)
    (k2 : |d0 + d1 * (3 * a + 2 * b) / 5 + d2 * (3 * a ^ 2 + 6 * a * b + b ^ 2) / 10 + d3 * (a ^ 3 + 6 * a ^ 2 * b + 3 * a * b ^ 2) / 10
      + d4 * (2 * a ^ 3 * b + 3 * a ^ 2 * b ^ 2) / 5 + d5 * (a ^ 3 * b ^ 2)| ≤ M)
    (k3 : |d0 + d1 * (2 * a + 3 * b) / 5 + d2 * (a ^ 2 + 6 * a * b + 3 * b ^ 2) / 10 + d3 * (3 * a ^ 2 * b + 6 * a * b ^ 2 + b ^ 3) / 10
      + d4 * (3 * a ^ 2 * b ^ 2 + 2 * a * b ^ 3) / 5 + d5 * (a ^ 2 * b ^ 3)| ≤ M)
    (k4 : |d0 + d1 * (a + 4 * b) / 5 + d2 * (4 * a * b + 6 * b ^ 2) / 10 + d3 * (6 * a * b ^ 2 + 4 * b ^ 3) / 10
      + d4 * (4 * a * b ^ 3 + b ^ 4) / 5 + d5 * (a * b ^ 4)| ≤ M)
    (k5 : |d0 + d1 * b + d2 * b ^ 2 + d3 * b ^ 3 + d4 * b ^ 4 + d5 * b ^ 5| ≤ M) :
    |d0 + d1 * s + d2 * s ^ 2 + d3 * s ^ 3 + d4 * s ^ 4 + d5 * s ^ 5| ≤ M := by
  have hh : 0 < (b - a) ^ 5 := pow_pos (by linarith) 5
  have u : 0 ≤ b - s := by linarith
  have v : 0 ≤ s - a := by linarith
  rw [abs_le] at k0 k1 k2 k3 k4 k5
  have w0 : 0 ≤ (b - s) ^ 5 := by positivity
  have w1 : 0 ≤ 5 * ((b - s) ^ 4 * (s - a)) := by positivity
  have w2 : 0 ≤ 10 * ((b - s) ^ 3 * (s - a) ^ 2) := by positivity
  have w3 : 0 ≤ 10 * ((b - s) ^ 2 * (s - a) ^ 3) := by positivity
  have w4 : 0 ≤ 5 * ((b - s) * (s - a) ^ 4) := by positivity
  have w5 : 0 ≤ (s - a) ^ 5 := by positivity
  rw [abs_le]
  constructor
  · refine le_of_mul_le_mul_left ?_ hh
    have := add_nonneg (add_nonneg (add_nonneg (add_nonneg (add_nonneg (mul_nonneg w0 (sub_nonneg.mpr k0.1)) (mul_nonneg w1 (sub_nonneg.mpr k1.1)))
      (mul_nonneg w2 (sub_nonneg.mpr k2.1))) (mul_nonneg w3 (sub_nonneg.mpr k3.1))) (mul_nonneg w4 (sub_nonneg.mpr k4.1))) (mul_nonneg w5 (sub_nonneg.mpr k5.1))
    rw [← sub_nonneg]
    refine this.trans_eq ?_
    ring
  · refine le_of_mul_le_mul_left ?_ hh
    have := add_nonneg (add_nonneg (add_nonneg (add_nonneg (add_nonneg (mul_nonneg w0 (sub_nonneg.mpr k0.2)) (mul_nonneg w1 (sub_nonneg.mpr k1.2)))
      (mul_nonneg w2 (sub_nonneg.mpr k2.2))) (mul_nonneg w3 (sub_nonneg.mpr k3.2))) (mul_nonneg w4 (sub_nonneg.mpr k4.2))) (mul_nonneg w5 (sub_nonneg.mpr k5.2))
    rw [← sub_nonneg]
    refine this.trans_eq ?_
    ring

/-- The odd polynomial minus the cut series, divided by the argument, in the argument's square. -/
def gap (s : ℝ) : ℝ :=
  -57 / 16777216 + (-5591787 / 33554432 + 1 / 6) * s + (8918849 / 1073741824 - 1 / 120) * s ^ 2
    + (-12619407 / 68719476736 + 1 / 5040) * s ^ 3 + -1 / 362880 * s ^ 4 + 1 / 39916800 * s ^ 5

theorem odd_sub_taylor (r : ℝ) : odd r - taylor r = r * gap (r * r) := by unfold odd taylor gap; ring

/-- Where the gap is at most `M` in size and the square at most `b`, with `b M²` at most `(9e-7)²`, the two polynomials differ
    by at most 9e-7. -/
theorem scaled (r b M : ℝ) (hb : r * r ≤ b) (h : |gap (r * r)| ≤ M) (hM : b * M ^ 2 ≤ (9 / 10 ^ 7) ^ 2) :
    |r * gap (r * r)| ≤ 9 / 10 ^ 7 := by
  refine abs_le_of_sq_le_sq ?_ (by norm_num)
  have h0 : gap (r * r) ^ 2 ≤ M ^ 2 := by rw [← sq_abs]; exact pow_le_pow_left₀ (abs_nonneg _) h 2
  have hr : 0 ≤ r * r := mul_self_nonneg r
  calc (r * gap (r * r)) ^ 2 = (r * r) * gap (r * r) ^ 2 := by ring
    _ ≤ b * M ^ 2 := mul_le_mul hb h0 (sq_nonneg _) (hr.trans hb)
    _ ≤ _ := hM

/-- On one interval of squares, from the gap's six control values there. -/
theorem piece (a b M : ℝ) (hab : a < b) (hM : b * M ^ 2 ≤ (9 / 10 ^ 7) ^ 2) (k : ∀ s, a ≤ s → s ≤ b → |gap s| ≤ M) (r : ℝ)
    (ha : a ≤ r * r) (hb : r * r ≤ b) : |odd r - taylor r| ≤ 9 / 10 ^ 7 := by
  rw [odd_sub_taylor]
  exact scaled r b M hb (k _ ha hb) hM

/-- The gap on six intervals that cover the squares up to 2.4678. -/
theorem odd_near_taylor (r : ℝ) (h : r * r ≤ 24678 / 10000) : |odd r - taylor r| ≤ 9 / 10 ^ 7 := by
  have h0 : 0 ≤ r * r := mul_self_nonneg r
  rcases le_total (r * r) (7 / 100) with h1 | h1
  · refine piece (0) (7 / 100) (33975 / 10 ^ 10) (by norm_num) (by norm_num) (fun s ha hb => ?_) r h0 h1
    refine controlled _ _ _ _ _ _ (0) (7 / 100) _ s ha hb ?_ ?_ ?_ ?_ ?_ ?_ ?_ <;> norm_num [abs_le]
  rcases le_total (r * r) (162 / 1000) with h2 | h2
  · refine piece (7 / 100) (162 / 1000) (22349 / 10 ^ 10) (by norm_num) (by norm_num) (fun s ha hb => ?_) r h1 h2
    refine controlled _ _ _ _ _ _ (7 / 100) (162 / 1000) _ s ha hb ?_ ?_ ?_ ?_ ?_ ?_ ?_ <;> norm_num [abs_le]
  rcases le_total (r * r) (72 / 100) with h3 | h3
  · refine piece (162 / 1000) (72 / 100) (10601 / 10 ^ 10) (by norm_num) (by norm_num) (fun s ha hb => ?_) r h2 h3
    refine controlled _ _ _ _ _ _ (162 / 1000) (72 / 100) _ s ha hb ?_ ?_ ?_ ?_ ?_ ?_ ?_ <;> norm_num [abs_le]
  rcases le_total (r * r) (1739 / 1000) with h4 | h4
  · refine piece (72 / 100) (1739 / 1000) (6819 / 10 ^ 10) (by norm_num) (by norm_num) (fun s ha hb => ?_) r h3 h4
    refine controlled _ _ _ _ _ _ (72 / 100) (1739 / 1000) _ s ha hb ?_ ?_ ?_ ?_ ?_ ?_ ?_ <;> norm_num [abs_le]
  rcases le_total (r * r) (2281 / 1000) with h5 | h5
  · refine piece (1739 / 1000) (2281 / 1000) (5954 / 10 ^ 10) (by norm_num) (by norm_num) (fun s ha hb => ?_) r h4 h5
    refine controlled _ _ _ _ _ _ (1739 / 1000) (2281 / 1000) _ s ha hb ?_ ?_ ?_ ?_ ?_ ?_ ?_ <;> norm_num [abs_le]
  refine piece (2281 / 1000) (24678 / 10000) (4250 / 10 ^ 10) (by norm_num) (by norm_num) (fun s ha hb => ?_) r h5 h
  refine controlled _ _ _ _ _ _ (2281 / 1000) (24678 / 10000) _ s ha hb ?_ ?_ ?_ ?_ ?_ ?_ ?_ <;> norm_num [abs_le]

/-- The count of turns the kernel takes off: the floor of `p / π + 1/2`, with its own value of `1 / π`. -/
def count (p : ℝ) : ℤ := ⌊p * (10680707 / 33554432) + 1 / 2⌋

/-- What it leaves of `p`, with its own two pieces of π. -/
def rest (p : ℝ) : ℝ := p - count p * (201 / 64) - count p * (8312081 / 8589934592)

/-- Up to 1000 at most 319 turns are taken off. -/
theorem count_le (p : ℝ) (hp : |p| ≤ 1000) : |(count p : ℝ)| ≤ 319 := by
  have h1 := Int.floor_le (p * (10680707 / 33554432) + 1 / 2)
  have h2 := Int.lt_floor_add_one (p * (10680707 / 33554432) + 1 / 2)
  rw [abs_le] at hp ⊢
  have hlo : -320 < count p := by
    have : (-320 : ℝ) < (count p : ℝ) := by unfold count; linarith
    exact_mod_cast this
  have hhi : count p < 320 := by
    have : (count p : ℝ) < 320 := by unfold count; linarith
    exact_mod_cast this
  constructor
  · have : -319 ≤ count p := by omega
    exact_mod_cast this
  · have : count p ≤ 319 := by omega
    exact_mod_cast this

/-- What is left is at most 1.5709 in size. -/
theorem rest_le (p : ℝ) (hp : |p| ≤ 1000) : |rest p| ≤ 15709 / 10000 := by
  have h1 := Int.floor_le (p * (10680707 / 33554432) + 1 / 2)
  have h2 := Int.lt_floor_add_one (p * (10680707 / 33554432) + 1 / 2)
  have h3 := abs_le.mp (count_le p hp)
  rw [abs_le]
  unfold rest
  unfold count at *
  constructor <;> linarith [h3.1, h3.2]

/-- What is left is `p` less that many times π, to within 1e-8. -/
theorem rest_near (p : ℝ) (hp : |p| ≤ 1000) : |rest p - (p - count p * Real.pi)| ≤ 1 / 10 ^ 8 := by
  have h := count_le p hp
  obtain ⟨l, u⟩ := pi_near
  have e : rest p - (p - count p * Real.pi) = count p * (Real.pi - 201 / 64 - 8312081 / 8589934592) := by unfold rest; ring
  have d : |Real.pi - 201 / 64 - 8312081 / 8589934592| ≤ 2 / 10 ^ 11 := by
    rw [abs_le]
    norm_num at l u ⊢
    constructor <;> linarith
  rw [e, abs_mul]
  refine (mul_le_mul h d (abs_nonneg _) (by norm_num)).trans (by norm_num)

/-- The polynomial sine of a real number. -/
def sine (p : ℝ) : ℝ := if Even (count p) then odd (rest p) else 0 - odd (rest p)

/-- Up to 1000 the polynomial sine is within 9.9e-7 of the sine. -/
theorem sine_near (p : ℝ) (hp : |p| ≤ 1000) : |sine p - Real.sin p| ≤ 99 / 10 ^ 8 := by
  have hr := rest_le p hp
  have hs : rest p * rest p ≤ 24678 / 10000 := by
    rw [← abs_mul_abs_self]
    exact (mul_le_mul hr hr (abs_nonneg _) (by norm_num)).trans (by norm_num)
  have h1 := odd_near_taylor (rest p) hs
  have h2 := taylor_near (rest p) (hr.trans (by norm_num))
  have h3 := sin_close _ _ (rest_near p hp)
  have h4 : |odd (rest p) - Real.sin (p - count p * Real.pi)| ≤ 99 / 10 ^ 8 := by
    rw [abs_le] at *
    norm_num at *
    constructor <;> linarith [h1.1, h1.2, h2.1, h2.2, h3.1, h3.2]
  rw [Real.sin_sub_int_mul_pi] at h4
  unfold sine
  split
  · rename_i he
    rwa [he.neg_one_zpow, one_mul] at h4
  · rename_i he
    rw [(Int.not_even_iff_odd.mp he).neg_one_zpow] at h4
    rw [← abs_neg]
    refine le_of_eq_of_le (congrArg _ ?_) h4
    ring

end Cert.Embed.Bound

end
-- ==== Proof.PolyReal.lean ====
/-
  The kernel's polynomial sine of a real number is the real polynomial sine, so close to the sine.
-/
module

public import proofs.«01_k».proof.Proof.PolySin
public import proofs.«01_k».proof.Proof.SineBound
public import Idealize.ShloMosaic.Lib.IdealHost

@[expose] public section

noncomputable section

namespace Cert.Embed

open Idealize.ShloMosaic

/-- The literals, as the real numbers they are. -/
theorem lit_inv_pi : Ideal.ofBits .f32 0x3EA2F983#32 = ((10680707 / 33554432 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_hi : Ideal.ofBits .f32 0x40490000#32 = ((201 / 64 : ℝ) : EReal) := by
  simp [Ideal.ofBits, Ideal.ieee, -EReal.coe_mul]; norm_num
theorem lit_lo : Ideal.ofBits .f32 0x3A7DAA22#32 = ((8312081 / 8589934592 : ℝ) : EReal) := by
  simp [Ideal.ofBits, Ideal.ieee, -EReal.coe_mul]; norm_num
theorem lit_c0 : Ideal.ofBits .f32 0x3F7FFFC7#32 = ((16777159 / 16777216 : ℝ) : EReal) := by
  simp [Ideal.ofBits, Ideal.ieee, -EReal.coe_mul]; norm_num
theorem lit_c1 : Ideal.ofBits .f32 0xBE2AA5D6#32 = ((-5591787 / 33554432 : ℝ) : EReal) := by
  simp [Ideal.ofBits, Ideal.ieee, -EReal.coe_mul, -EReal.coe_neg]; norm_num
theorem lit_c2 : Ideal.ofBits .f32 0x3C081741#32 = ((8918849 / 1073741824 : ℝ) : EReal) := by
  simp [Ideal.ofBits, Ideal.ieee, -EReal.coe_mul]; norm_num
theorem lit_c3 : Ideal.ofBits .f32 0xB9408E8F#32 = ((-12619407 / 68719476736 : ℝ) : EReal) := by
  simp [Ideal.ofBits, Ideal.ieee, -EReal.coe_mul, -EReal.coe_neg]; norm_num

theorem turns_coe (p : ℝ) : turns p = ((Bound.count p : ℝ) : EReal) := by
  unfold turns Bound.count
  rw [lit_inv_pi, lit_half, ← EReal.coe_mul, ← EReal.coe_add, Ideal.liftRound_coe]

theorem reduced_coe (p : ℝ) : reduced p (Bound.count p : ℝ) = (Bound.rest p : EReal) := by
  unfold reduced Bound.rest
  rw [lit_hi, lit_lo, ← EReal.coe_mul, ← EReal.coe_mul, ← EReal.coe_sub, ← EReal.coe_sub]

theorem odd7_coe (r : ℝ) : odd7 r = (Bound.odd r : EReal) := by
  unfold odd7 Bound.odd
  rw [lit_c0, lit_c1, lit_c2, lit_c3]
  simp only [← EReal.coe_mul, ← EReal.coe_add]

/-- The last bit of a small integer is its parity. -/
theorem last_bit (n : ℤ) (h : |(n : ℝ)| ≤ 319) :
    IntOp.cmpi .ne (IntOp.andi (Ideal.fptosi 32 ((n : ℝ) : EReal)) 1#32) 0#32 = if Even n then 0#1 else 1#1 := by
  obtain ⟨l, u⟩ := abs_le.mp h
  have l' : -319 ≤ n := by exact_mod_cast l
  have u' : n ≤ 319 := by exact_mod_cast u
  have e : Ideal.fptosi 32 ((n : ℝ) : EReal) = BitVec.ofInt 32 n := by
    show BitVec.ofInt 32 (max _ (min _ (if 0 ≤ (n : ℝ) then ⌊(n : ℝ)⌋ else ⌈(n : ℝ)⌉))) = _
    rw [Int.floor_intCast, Int.ceil_intCast, ite_self]
    congr 1
    norm_num
    omega
  rw [e]
  have key : ∀ k : Fin 640, IntOp.cmpi .ne (IntOp.andi (BitVec.ofInt 32 ((k.val : ℤ) - 320)) 1#32) 0#32
      = if ((k.val : ℤ) - 320) % 2 = 0 then 0#1 else 1#1 := by decide +kernel
  have := key ⟨(n + 320).toNat, by omega⟩
  rw [show (((⟨(n + 320).toNat, by omega⟩ : Fin 640).val : ℤ) - 320) = n from by show ((n + 320).toNat : ℤ) - 320 = n; omega] at this
  rw [this]
  simp only [Int.even_iff]

/-- The polynomial sine of a real number of size at most 1000. -/
theorem polySin_coe (p : ℝ) (hp : |p| ≤ 1000) : polySin p = (Bound.sine p : EReal) := by
  unfold polySin Bound.sine
  rw [turns_coe, reduced_coe, odd7_coe, last_bit _ (Bound.count_le p hp)]
  split
  · rfl
  · rw [← EReal.coe_zero, ← EReal.coe_sub]
    rfl

end Cert.Embed

end
-- ==== Proof.PolyBlock.lean ====
/-
  What one grid point of the kernel with the polynomial sine leaves in its two output blocks, element by element.
-/
module

public import proofs.«01_k».proof.Proof.Block
public import proofs.«01_k».proof.Proof.PolySin
public import proofs.«01_k».proof.Proof.Gen.KernelPolyIdeal.Value
public import Idealize.ShloMosaic.Lib.Tactic

@[expose] public section

noncomputable section

open Idealize.ShloMosaic Idealize.ShloMosaic.TcCoe Idealize.SL.Sem

namespace Cert.Embed.Poly

open Cert.KernelPolyIdeal Cert.KernelPolyIdeal.Gen

variable (c : Dev nD) (i : grid0.Coords)
  (a2 : Memref sig .tc .vmem S1x16x513x1 .f32) (h2 : a2.IsWhole) (a3 : Memref sig .tc .vmem S1x16x513x1 .f32) (h3 : a3.IsWhole)
  (a4 : Memref sig .tc .vmem S1x16x513x1 .f32) (h4 : a4.IsWhole) (a5 : Memref sig .tc .vmem S1x128 .f32) (h5 : a5.IsWhole)
  (a6 : Memref sig .tc .vmem S1x128 .f32) (h6 : a6.IsWhole) (a7 : Memref sig .tc .vmem S2x128 .f32) (h7 : a7.IsWhole)
  (a8 : Memref sig .tc .vmem S1x128 .f32) (h8 : a8.IsWhole) (a9 : Memref sig .tc .vmem S16x128 .f32) (h9 : a9.IsWhole)
  (a10 : Memref sig .tc .vmem S2x128 .f32) (h10 : a10.IsWhole) (a11 : Memref sig .tc .vmem S16x513x128 .f32) (h11 : a11.IsWhole)
  (a12 : Memref sig .tc .vmem S1x1x16x128 .f32) (h12 : a12.IsWhole)
  (x0 x1 x2 : Vec Ideal S1x16x513x1 .f32) (x3 x4 : Vec Ideal S1x128 .f32) (x5 : Vec Ideal S2x128 .f32) (x6 : Vec Ideal S1x128 .f32)
  (x7 : Vec Ideal S16x128 .f32) (x8 : Vec Ideal S2x128 .f32)

/-- The first output's block: row 0 is the prompt, every other row the embedding. -/
theorem out9_apply (p : Fin 16) (r : Fin 513) (d : Fin 128) :
    out0_A_9 (F := Ideal) c i a2 h2 a3 h3 a4 h4 a5 h5 a6 h6 a7 h7 a8 h8 a9 h9 a10 h10 a11 h11 a12 h12 x0 x1 x2 x3 x4 x5 x6 x7 x8 (ix3 p r d)
      = if r.val = 0 then x7 (ix2 p d) + x8 (ix2 0 d)
        else cell polySin d (x0 (ix4 0 p r 0)) (x1 (ix4 0 p r 0)) (x2 (ix4 0 p r 0)) (x3 (ix2 0 d)) (x4 (ix2 0 d)) (x5 (ix2 0 d)) (x5 (ix2 1 d))
          (x6 (ix2 0 d)) := by
  have hz2 : (![0, 0] : Fin 2 → Nat) = fun _ => 0 := funext fun a => by fin_cases a <;> rfl
  have hz4 : (![0, 0, 0, 0] : Fin 4 → Nat) = fun _ => 0 := funext fun a => by fin_cases a <;> rfl
  unfold out0_A_9
  rw [View.read_writes_eq_canon _ _ _ (cover0_A_9 c i a2 h2 a3 h3 a4 h4 a5 h5 a6 h6 a7 h7 a8 h8 a9 h9 a10 h10 a11 h11 a12 h12 x0 x1 x2 x3 x4 x5 x6 x7 x8)]
  unfold kernelRun0_A
  dsimp only
  sl_unfold_words
  rw [canon_first_row]
  simp only [View.readAt_eq_ld, h2.read_unread, h3.read_unread, h4.read_unread, h5.read_unread, h6.read_unread, h7.read_unread,
    h8.read_unread, h9.read_unread, h10.read_unread, View.ld_unit_zero (S := S1x128) hz2, View.ld_unit_zero (S := S16x128) hz2,
    View.ld_unit_zero (S := S1x16x513x1) hz4]
  unfold_payloads
  split
  · pointwise
  · pointwise
    rw [select_lane]
    rfl

/-- The second output's block: the prompts of the block's variables. -/
theorem out10_apply (p : Fin 16) (d : Fin 128) :
    out0_A_10 (F := Ideal) c i a2 h2 a3 h3 a4 h4 a5 h5 a6 h6 a7 h7 a8 h8 a9 h9 a10 h10 a11 h11 a12 h12 x0 x1 x2 x3 x4 x5 x6 x7 x8 (ix4 0 0 p d)
      = x7 (ix2 p d) + x8 (ix2 0 d) := by
  have hz2 : (![0, 0] : Fin 2 → Nat) = fun _ => 0 := funext fun a => by fin_cases a <;> rfl
  have hz4 : (![0, 0, 0, 0] : Fin 4 → Nat) = fun _ => 0 := funext fun a => by fin_cases a <;> rfl
  unfold out0_A_10
  rw [View.read_writes_eq_canon _ _ _ (cover0_A_10 c i a2 h2 a3 h3 a4 h4 a5 h5 a6 h6 a7 h7 a8 h8 a9 h9 a10 h10 a11 h11 a12 h12 x0 x1 x2 x3 x4 x5 x6 x7 x8)]
  unfold kernelRun0_A
  dsimp only
  sl_unfold_words
  rw [View.canon_unit_zero hz4]
  simp only [View.readAt_eq_ld, h9.read_unread, h10.read_unread, View.ld_unit_zero (S := S16x128) hz2]
  unfold_payloads
  pointwise

end Cert.Embed.Poly

end
-- ==== Proof.PolyValue.lean ====
/-
  The two result arrays of the kernel with the polynomial sine after its run. Its launch differs from the other kernel's
  only in what is done to a block, so what it finds in its blocks and where it puts them is read off that kernel's.
-/
module

public import proofs.«01_k».proof.Proof.PolyBlock
public import proofs.«01_k».proof.Proof.KernelValue

@[expose] public section

noncomputable section

open Idealize.ShloMosaic Idealize.ShloMosaic.TcCoe Idealize.SL.Sem
open Idealize.ShloMosaic.Pipeline (Dat Window)

namespace Cert.Embed.Poly

open Cert.KernelPolyIdeal Cert.KernelPolyIdeal.Gen
open Cert.Embed.Sine (batch variableAt)

variable (m : (ℓ : Loc nD τ sig) → Buf (Elt Ideal) ℓ) (c : Dev nD)

/-- Device `c`'s arguments as launched. -/
def args : Args := Sine.args m c

/-- The times' block. -/
theorem block_times (t : Fin cfg0.N) (p : Fin 16) (r : Fin 513) (hr : r.val ≠ 0) :
    iblk m c 0 t (ix4 0 p r 0) = (args m c).tt (ix3 (batch t) ⟨r.val - 1, by omega⟩ (variableAt t p)) := Sine.block_times m c t p r hr

/-- The values' block. -/
theorem block_values (t : Fin cfg0.N) (p : Fin 16) (r : Fin 513) (hr : r.val ≠ 0) :
    iblk m c 1 t (ix4 0 p r 0) = (args m c).x (ix3 (batch t) ⟨r.val - 1, by omega⟩ (variableAt t p)) := Sine.block_values m c t p r hr

/-- The mask's block. -/
theorem block_mask (t : Fin cfg0.N) (p : Fin 16) (r : Fin 513) (hr : r.val ≠ 0) :
    iblk m c 2 t (ix4 0 p r 0) = (args m c).xm (ix3 (batch t) ⟨r.val - 1, by omega⟩ (variableAt t p)) := Sine.block_mask m c t p r hr

/-- The table's block: sixteen variables' rows. -/
theorem block_table (t : Fin cfg0.N) (p : Fin 16) (d : Fin 128) :
    iblk m c 7 t (ix2 p d) = (args m c).var (ix2 (variableAt t p) d) := Sine.block_table m c t p d

/-- The small operands are staged whole. -/
theorem block_weights (t : Fin cfg0.N) (d : Fin 128) : iblk m c 3 t (ix2 0 d) = wt (args m c) d := Sine.block_weights m c t d

theorem block_biases (t : Fin cfg0.N) (d : Fin 128) : iblk m c 4 t (ix2 0 d) = bt (args m c) d := Sine.block_biases m c t d

theorem block_value_weights (t : Fin cfg0.N) (k : Fin 2) (d : Fin 128) : iblk m c 5 t (ix2 k d) = (args m c).wval (ix2 k d) :=
  Sine.block_value_weights m c t k d

theorem block_value_bias (t : Fin cfg0.N) (d : Fin 128) :
    iblk m c 6 t (ix2 0 d) = (args m c).bval (ix1 d) + (args m c).ind (ix2 1 d) := Sine.block_value_bias m c t d

theorem block_indicators (t : Fin cfg0.N) (k : Fin 2) (d : Fin 128) : iblk m c 8 t (ix2 k d) = (args m c).ind (ix2 k d) :=
  Sine.block_indicators m c t k d

/-- What point `t` writes back to the first result is its block of the embedding, the sine replaced by its polynomial. -/
theorem flushed9_eq (t : Fin cfg0.N) :
    (dats m 0 c).flushed 9 t = ((cfg0.win 9).blk t).view.read (Elt Ideal) (out (args m c) polySin) := by
  rw [Cert.KernelPolyIdeal.Value.flushed9_A]
  funext y
  rw [View.read_apply]
  obtain ⟨p, r, d, rfl⟩ : ∃ (p : Fin 16) (r : Fin 513) (d : Fin 128), y = ix3 p r d := ⟨y 0, y 1, y 2, eq_ix3 y⟩
  refine Eq.trans ?_ (Sine.out_block m c polySin t p r d).symm
  show out0_A_9 (F := Ideal) _ _ _ _ _ _ _ _ _ _ _ _ _ _ _ _ _ _ _ _ _ _ _ _ _ _ _ _ _ _ _ _ _ (ix3 p r d)
    = outAt (args m c) polySin (batch t) (variableAt t p) r d
  rw [out9_apply]
  unfold outAt
  by_cases hr : r.val = 0
  · rw [if_pos hr, dif_pos hr]
    unfold prompt
    rw [block_table, block_indicators]
  · rw [if_neg hr, dif_neg hr]
    unfold emb
    rw [block_times m c t p r hr, block_values m c t p r hr, block_mask m c t p r hr, block_weights, block_biases, block_value_weights,
      block_value_weights, block_value_bias]

/-- What point `t` writes back to the second result is its block of the prompts. -/
theorem flushed10_eq (t : Fin cfg0.N) :
    (dats m 0 c).flushed 10 t = ((cfg0.win 10).blk t).view.read (Elt Ideal) (prompts (args m c)) := by
  rw [Cert.KernelPolyIdeal.Value.flushed10_A]
  funext y
  rw [View.read_apply]
  obtain ⟨a, b, p, d, rfl⟩ : ∃ (a : Fin 1) (b : Fin 1) (p : Fin 16) (d : Fin 128), y = ix4 a b p d := ⟨y 0, y 1, y 2, y 3, eq_ix4 y⟩
  obtain rfl : a = 0 := Subsingleton.elim _ _
  obtain rfl : b = 0 := Subsingleton.elim _ _
  refine Eq.trans ?_ (Sine.prompts_block m c t p d).symm
  show out0_A_10 (F := Ideal) _ _ _ _ _ _ _ _ _ _ _ _ _ _ _ _ _ _ _ _ _ _ _ _ _ _ _ _ _ _ _ _ _ (ix4 0 0 p d)
    = prompt (args m c) (variableAt t p) d
  rw [out10_apply]
  unfold prompt
  rw [block_table, block_indicators]

/-- The first result after the run: the embedding with the polynomial for the sine. -/
theorem final9 : (dats m 0 c).arrAt 9 cfg0.N = out (args m c) polySin :=
  (dats m 0 c).arrAt_eq_of_cover 9 (out (args m c) polySin) (fun t _ => flushed9_eq m c t) Sine.covered9

/-- The second result after the run: the prompts, in every batch. -/
theorem final10 : (dats m 0 c).arrAt 10 cfg0.N = prompts (args m c) :=
  (dats m 0 c).arrAt_eq_of_cover 10 (prompts (args m c)) (fun t _ => flushed10_eq m c t) Sine.covered10

end Cert.Embed.Poly

end
-- ==== Proof.Near.lean ====
/-
  The kernel with the polynomial sine ends within one millionth of the reference.
-/
module

public import proofs.«01_k».proof.Defs
public import proofs.«01_k».proof.Proof.PolyReal
public import proofs.«01_k».proof.Proof.PolyValue
public import proofs.«01_k».proof.Proof.RefValue
public import proofs.«01_k».proof.Proof.Gen.KernelPolyIdeal.Value
public import proofs.«01_k».proof.Proof.Gen.Post_near
public import proofs.«01_k».proof.Proof.Gen.Pre_bounded
public import Idealize.ShloMosaic.Lib.Claim

@[expose] public section

noncomputable section

open Idealize.ShloMosaic Idealize.ShloMosaic.TcCoe Idealize.SL.Sem

namespace Cert.Embed

/-- The tolerance, as the real number it is. -/
theorem lit_tolerance : Ideal.ofBits .f32 0x358637BD#32 = ((8796093 / 8796093022208 : ℝ) : EReal) := by
  simp [Ideal.ofBits, Ideal.ieee, -EReal.coe_mul]; norm_num

/-- The bound on the mask and the bound on the phase. -/
theorem lit_one : Ideal.ofBits .f32 0x3F800000#32 = ((1 : ℝ) : EReal) := by
  simp [Ideal.ofBits, Ideal.ieee, -EReal.coe_mul]; norm_num
theorem lit_thousand : Ideal.ofBits .f32 0x447A0000#32 = ((1000 : ℝ) : EReal) := by
  simp [Ideal.ofBits, Ideal.ieee, -EReal.coe_mul]; norm_num

/-- An extended real whose absolute value is at most a real bound is a real number so bounded. -/
theorem real_of_abs_le (x : EReal) (B : ℝ) (h : max x (-x) ≤ (B : EReal)) : ∃ r : ℝ, x = r ∧ |r| ≤ B := by
  obtain ⟨h1, h2⟩ := max_le_iff.mp h
  induction x using EReal.rec with
  | bot => exact absurd h2 (by simp)
  | top => exact absurd h1 (by simp)
  | coe r =>
    refine ⟨r, rfl, abs_le.mpr ⟨?_, EReal.coe_le_coe_iff.mp h1⟩⟩
    rw [← EReal.coe_neg, EReal.coe_le_coe_iff] at h2
    linarith

/-- Two extended reals are within the tolerance: neither is more than it above the other. -/
def Within (a b : EReal) : Prop := a ≤ b + Ideal.ofBits .f32 0x358637BD#32 ∧ b ≤ a + Ideal.ofBits .f32 0x358637BD#32

theorem Within.refl (a : EReal) : Within a a := by
  have h : (0 : EReal) ≤ Ideal.ofBits .f32 0x358637BD#32 := by rw [lit_tolerance]; exact_mod_cast (by norm_num : (0 : ℝ) ≤ 8796093 / 8796093022208)
  exact ⟨le_add_of_nonneg_right h, le_add_of_nonneg_right h⟩

/-- Real numbers that close stay so when anything is added to both. -/
theorem Within.add (a b : ℝ) (v : EReal) (h : |a - b| ≤ 99 / 10 ^ 8) : Within (a + v) (b + v) := by
  obtain ⟨l, u⟩ := abs_le.mp h
  unfold Within
  rw [lit_tolerance, add_right_comm, add_right_comm (a : EReal), ← EReal.coe_add, ← EReal.coe_add]
  norm_num at l u
  constructor
  · gcongr
    linarith
  · gcongr
    linarith

/-- One embedded element with the polynomial is within the tolerance of the one with the sine, when the mask is at most 1
    and, off lane 0, the phase at most 1000. -/
theorem cell_near (d : Fin 128) (tt x xm w b w0 w1 bv : EReal) (hm : max xm (-xm) ≤ ((1 : ℝ) : EReal))
    (hp : d.val ≠ 0 → max (tt * w + b) (-(tt * w + b)) ≤ ((1000 : ℝ) : EReal)) :
    Within (cell polySin d tt x xm w b w0 w1 bv) (cell Ideal.sin d tt x xm w b w0 w1 bv) := by
  unfold cell
  by_cases hd : d.val = 0
  · rw [if_pos hd, if_pos hd]
    exact Within.refl _
  · rw [if_neg hd, if_neg hd]
    obtain ⟨p, e, hp⟩ := real_of_abs_le _ _ (hp hd)
    obtain ⟨q, rfl, hq⟩ := real_of_abs_le _ _ hm
    rw [e, polySin_coe p hp, Ideal.sin_coe, ← EReal.coe_mul, ← EReal.coe_mul]
    refine Within.add _ _ _ ?_
    rw [← mul_sub, abs_mul]
    have := Bound.sine_near p hp
    nlinarith [abs_nonneg (Bound.sine p - Real.sin p), abs_nonneg q]

/-- The arguments are as the claim asks: the mask at most 1 everywhere and every phase at most 1000. -/
structure Tame (A : Args) : Prop where
  mask : ∀ i, max (A.xm i) (-A.xm i) ≤ ((1 : ℝ) : EReal)
  phase : ∀ b t j d, d.val ≠ 0 → max (pre A b t j d) (-pre A b t j d) ≤ ((1000 : ℝ) : EReal)

/-- The first result with the polynomial against the first result with the sine. -/
theorem out_near (A : Args) (h : Tame A) (i : Out.Idx) : Within (out A polySin i) (out A Ideal.sin i) := by
  unfold out outAt
  split
  · exact Within.refl _
  · exact cell_near _ _ _ _ _ _ _ _ _ (h.mask _) (h.phase _ _ _ _)

/-- The claim's first two answers compare the result with the reference's, either way up. -/
theorem answer_out (A : Args) (o : Out.Idx → EReal) (v : Prompt.Idx → EReal) :
    (Cert.Post_near.fn (F := Ideal) A.tt A.x A.xm A.wper A.bper A.wlin A.blin A.wval A.bval A.var A.ind o v).1
        = (fun i => Ideal.cmp .ole (o i) (out A Ideal.sin i + Ideal.ofBits .f32 0x358637BD#32))
      ∧ (Cert.Post_near.fn (F := Ideal) A.tt A.x A.xm A.wper A.bper A.wlin A.blin A.wval A.bval A.var A.ind o v).2.1
        = (fun i => Ideal.cmp .ole (out A Ideal.sin i) (o i + Ideal.ofBits .f32 0x358637BD#32)) := by
  rw [← Ref.out_eq]
  exact ⟨rfl, rfl⟩

/-- The claim's third answer compares the prompts. -/
theorem answer_prompts (A : Args) (o : Out.Idx → EReal) (v : Prompt.Idx → EReal) :
    (Cert.Post_near.fn (F := Ideal) A.tt A.x A.xm A.wper A.bper A.wlin A.blin A.wval A.bval A.var A.ind o v).2.2
        = (fun i => Ideal.cmp .oeq (v i) (prompts A i)) := by
  rw [← Ref.prompts_eq]
  rfl

/-- The precondition's first answer bounds the phases, its second the mask. -/
theorem asked_phase (A : Args) :
    (Cert.Pre_bounded.fn (F := Ideal) A.tt A.x A.xm A.wper A.bper A.wlin A.blin A.wval A.bval A.var A.ind).1
        = (fun i => Ideal.cmp .ole (max (Cert.ReferenceIdeal.Read.val_main_v8 (F := Ideal) A.tt A.wper A.bper i)
            (-Cert.ReferenceIdeal.Read.val_main_v8 (F := Ideal) A.tt A.wper A.bper i)) (Ideal.ofBits .f32 0x447A0000#32)) := rfl

theorem asked_mask (A : Args) :
    (Cert.Pre_bounded.fn (F := Ideal) A.tt A.x A.xm A.wper A.bper A.wlin A.blin A.wval A.bval A.var A.ind).2
        = (fun i => Ideal.cmp .ole (max (A.xm i) (-A.xm i)) (Ideal.ofBits .f32 0x3F800000#32)) := rfl

/-- A comparison that answers 1 holds. -/
theorem le_of_answer {x y : EReal} (h : Ideal.cmp .ole x y = 1#1) : x ≤ y := by
  by_contra hc
  simp [Ideal.cmp, hc] at h

theorem answer_of_le {x y : EReal} (h : x ≤ y) : Ideal.cmp .ole x y = 1#1 := by simp [Ideal.cmp, h]

/-- The precondition makes the arguments tame. -/
theorem tame (A : Args)
    (h1 : (Cert.Pre_bounded.fn (F := Ideal) A.tt A.x A.xm A.wper A.bper A.wlin A.blin A.wval A.bval A.var A.ind).1 = fun _ => 1#1)
    (h2 : (Cert.Pre_bounded.fn (F := Ideal) A.tt A.x A.xm A.wper A.bper A.wlin A.blin A.wval A.bval A.var A.ind).2 = fun _ => 1#1) :
    Tame A where
  mask i := by
    rw [asked_mask] at h2
    have := le_of_answer (congrFun h2 i)
    rwa [lit_one] at this
  phase b t j d hd := by
    rw [asked_phase] at h1
    have := le_of_answer (congrFun h1 (ix4 b t j ⟨d.val - 1, by omega⟩))
    rw [lit_thousand, Ref.periodic_eq] at this
    unfold pre wt bt
    rwa [dif_neg hd, dif_neg hd]

/-- The claim's three answers are all 1 of the results the kernel leaves. -/
theorem answers (A : Args) (h : Tame A) :
    (Cert.Post_near.fn (F := Ideal) A.tt A.x A.xm A.wper A.bper A.wlin A.blin A.wval A.bval A.var A.ind (out A polySin) (prompts A)).1
        = (fun _ => 1#1)
      ∧ (Cert.Post_near.fn (F := Ideal) A.tt A.x A.xm A.wper A.bper A.wlin A.blin A.wval A.bval A.var A.ind (out A polySin) (prompts A)).2.1
        = (fun _ => 1#1)
      ∧ (Cert.Post_near.fn (F := Ideal) A.tt A.x A.xm A.wper A.bper A.wlin A.blin A.wval A.bval A.var A.ind (out A polySin) (prompts A)).2.2
        = (fun _ => 1#1) := by
  rw [(answer_out A _ _).1, (answer_out A _ _).2, answer_prompts]
  exact ⟨funext fun i => answer_of_le (out_near A h i).1, funext fun i => answer_of_le (out_near A h i).2,
    funext fun i => by simp [Ideal.cmp]⟩

/-- From arguments the precondition admits, the kernel with the polynomial sine leaves its arguments as they were, its first
    result within the tolerance of the reference's, and its second result equal to the reference's. -/
theorem near_sine : Cert.holds_KernelPolyIdeal_near_pre_bounded := by
  intro m g hpre
  have h : ∀ c, Tame (Poly.args m c) := fun c => tame (Poly.args m c) (hpre c).1 (hpre c).2
  run_from (Cert.KernelPolyIdeal.Value.run_blocks (F := Ideal) m g)
  · rw [Poly.final9]
    exact (answers _ (h c)).1
  · rw [Poly.final9]
    exact (answers _ (h c)).2.1
  · rw [Poly.final10]
    exact (answers _ (h c)).2.2

end Cert.Embed

end
-- ==== Proof.lean ====
/-
  The claims assembled: every program's frame, and the kernel's two results equal to the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelBits
public import proofs.«01_k».proof.Proof.Gen.KernelBits.Skeleton
public import proofs.«01_k».proof.Proof.Gen.KernelBits.Launch
public import proofs.«01_k».proof.Proof.Gen.KernelBits.Points
public import proofs.«01_k».proof.Proof.Gen.KernelBits.Frame
public import proofs.«01_k».proof.Proof.Gen.KernelPoly
public import proofs.«01_k».proof.Proof.Gen.KernelPoly.Skeleton
public import proofs.«01_k».proof.Proof.Gen.KernelPoly.Launch
public import proofs.«01_k».proof.Proof.Gen.KernelPoly.Points
public import proofs.«01_k».proof.Proof.Gen.KernelPoly.Frame
public import proofs.«01_k».proof.Proof.Gen.KernelPolyIdeal
public import proofs.«01_k».proof.Proof.Gen.KernelPolyIdeal.Skeleton
public import proofs.«01_k».proof.Proof.Gen.KernelPolyIdeal.Launch
public import proofs.«01_k».proof.Proof.Gen.KernelPolyIdeal.Points
public import proofs.«01_k».proof.Proof.Gen.KernelPolyIdeal.Frame
public import proofs.«01_k».proof.Proof.Gen.Pre_bounded
public import proofs.«01_k».proof.Proof.Gen.Post_near
public import proofs.«01_k».proof.Proof.Equal
public import proofs.«01_k».proof.Proof.Near
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs and leaves its arguments as they were. -/
theorem frame_reference : Cert.quiescent_ReferenceIdeal := by
  intro m g _
  exact θ_run_mono (Cert.ReferenceIdeal.Value.run (F := Ideal) m g) fun r h => ⟨fun c => (h c).2.2, sem_eq_zero_of_no_sems (by decide) r.2⟩

/-- Everything the certificate claims. -/
theorem claim : Cert.Claim := ⟨Cert.Kernel.Gen.facts, Cert.KernelIdeal.Gen.facts, Cert.ReferenceIdeal.Gen.facts, Cert.KernelBits.Gen.facts, Cert.KernelPoly.Gen.facts, Cert.KernelPolyIdeal.Gen.facts, Cert.Pre_bounded.Gen.facts, Cert.Post_near.Gen.facts,
  fun m g _ => Cert.Kernel.Gen.frame m g,
  fun m g _ => Cert.KernelIdeal.Gen.frame m g,
  frame_reference,
  fun m g _ => Cert.KernelBits.Gen.frame m g,
  fun m g _ => Cert.KernelPoly.Gen.frame m g,
  fun m g _ => Cert.KernelPolyIdeal.Gen.frame m g,
  fun m g _ => Cert.KernelPolyIdeal.Gen.frame m g,
  trivial,
  Cert.Embed.equal,
  trivial,
  Cert.Embed.near_sine⟩

end Cert.Proof

end
